-- ==== Defs.lean ====
def Pre_Kernel [hPre_ranks_in_row : Cert.Pre_ranks_in_row.Facts] (m : (ℓ : Loc Cert.Kernel.nD Cert.Kernel.τ Cert.Kernel.sig) → Buf (Elt Bits) ℓ) : Prop :=
  ∀ c : Dev Cert.Kernel.nD,
    (Cert.Pre_ranks_in_row.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ranks_in_row : Cert.Pre_ranks_in_row.Facts] (m : (ℓ : Loc Cert.KernelIdeal.nD Cert.KernelIdeal.τ Cert.KernelIdeal.sig) → Buf (Elt Ideal) ℓ) : Prop :=
  ∀ c : Dev Cert.KernelIdeal.nD,
    (Cert.Pre_ranks_in_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_ranked [hPre_ranked : Cert.Pre_ranked.Facts] (m : (ℓ : Loc Cert.KernelIdeal.nD Cert.KernelIdeal.τ Cert.KernelIdeal.sig) → Buf (Elt Ideal) ℓ) : Prop :=
  ∀ c : Dev Cert.KernelIdeal.nD,
    (Cert.Pre_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranked [hPre_ranked : Cert.Pre_ranked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ranks_in_row : Cert.Pre_ranks_in_row.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ranks_in_row : Cert.Pre_ranks_in_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ranked [hKernelIdeal : Cert.KernelIdeal.Facts] [hPre_ranked : Cert.Pre_ranked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranked m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ranked [hReferenceIdeal : Cert.ReferenceIdeal.Facts] [hPre_ranked : Cert.Pre_ranked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ranked [hKernelIdeal : Cert.KernelIdeal.Facts] [hReferenceIdeal : Cert.ReferenceIdeal.Facts] [hPre_ranked : Cert.Pre_ranked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ranks_in_row : Cert.Pre_ranks_in_row.Facts) (hPre_ranked : Cert.Pre_ranked.Facts),
    quiescent_Kernel (hKernel := hKernel) (hPre_ranks_in_row := hPre_ranks_in_row)
    ∧ quiescent_KernelIdeal (hKernelIdeal := hKernelIdeal) (hPre_ranks_in_row := hPre_ranks_in_row)
    ∧ quiescent_KernelIdeal_pre_ranked (hKernelIdeal := hKernelIdeal) (hPre_ranked := hPre_ranked)
    ∧ quiescent_ReferenceIdeal (hReferenceIdeal := hReferenceIdeal)
    ∧ quiescent_ReferenceIdeal_pre_ranked (hReferenceIdeal := hReferenceIdeal) (hPre_ranked := hPre_ranked)
    ∧ preserves_Kernel_KernelIdeal
    ∧ algebraic_KernelIdeal_ReferenceIdeal_pre_ranked (hKernelIdeal := hKernelIdeal) (hReferenceIdeal := hReferenceIdeal) (hPre_ranked := hPre_ranked)
-- ==== Pre_ranked.lean ====
abbrev S1024x200 : Shape := ⟨2, ![1024, 200]⟩
abbrev S_ : Shape := ⟨0, ![]⟩
abbrev S1024x200x200 : Shape := ⟨3, ![1024, 200, 200]⟩
abbrev S1024x200x1 : Shape := ⟨3, ![1024, 200, 1]⟩
abbrev S1024x1x200 : Shape := ⟨3, ![1024, 1, 200]⟩

class Facts : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S1024x200_S1024x1x200_0_2 : S1024x200.BroadcastsInDim S1024x1x200 (![0, 2] : Fin 2 → Fin S1024x1x200.rank)
  bcast_S1024x200x1_S1024x200x200_0_1_2 : S1024x200x1.BroadcastsInDim S1024x200x200 (![0, 1, 2] : Fin 3 → Fin S1024x200x200.rank)
  bcast_S1024x1x200_S1024x200x200_0_1_2 : S1024x1x200.BroadcastsInDim S1024x200x200 (![0, 1, 2] : Fin 3 → Fin S1024x200x200.rank)

variable [Facts]

def fn {F : FTy → Type} [FloatOps F] (main_arg0 : FVec F S1024x200 .f32) (main_arg1 : IVec S1024x200 32) : IVec S1024x200x200 1 :=
  let main_c : IVec S_ 32 := constantI S_ 32 1#32
  let main_v0 : IVec S1024x200 32 := broadcastInDim S1024x200 ![] bcast_S_S1024x200 main_c
  let main_v1 : IVec S1024x200 1 := cmpi .sge main_arg1 main_v0
  let main_c_0 : IVec S_ 32 := constantI S_ 32 200#32
  let main_v2 : IVec S1024x200 32 := broadcastInDim S1024x200 ![] bcast_S_S1024x200 main_c_0
  let main_v3 : IVec S1024x200 1 := cmpi .sle main_arg1 main_v2
  let main_v4 : IVec S1024x200 1 := andi main_v1 main_v3
  let main_v5 : FVec F S1024x200 .f32 := Host.absf main_arg0
  let main_cst : FVec F S_ .f32 := constant S_ .f32 0x7F800000#32
  let main_v6 : FVec F S1024x200 .f32 := broadcastInDim S1024x200 ![] bcast_S_S1024x200 main_cst
  let main_v7 : IVec S1024x200 1 := cmpf .olt main_v5 main_v6
  let main_v8 : IVec S1024x200 1 := andi main_v4 main_v7
  let main_v9 : IVec S1024x200x200 32 := iotaInDim S1024x200x200 32 1
  let main_v10 : IVec S1024x200x200 32 := iotaInDim S1024x200x200 32 2
  let main_v11 : IVec S1024x200x200 1 := cmpi .eq main_v9 main_v10
  let main_v12 : IVec S1024x200x1 1 := broadcastInDim S1024x200x1 ![0, 1] bcast_S1024x200_S1024x200x1_0_1 main_v8
  let main_v13 : IVec S1024x200x1 32 := broadcastInDim S1024x200x1 ![0, 1] bcast_S1024x200_S1024x200x1_0_1 main_arg1
  let main_v14 : IVec S1024x1x200 32 := broadcastInDim S1024x1x200 ![0, 2] bcast_S1024x200_S1024x1x200_0_2 main_arg1
  let main_v15 : IVec S1024x200x200 32 := broadcastInDim S1024x200x200 ![0, 1, 2] bcast_S1024x200x1_S1024x200x200_0_1_2 main_v13
  let main_v16 : IVec S1024x200x200 32 := broadcastInDim S1024x200x200 ![0, 1, 2] bcast_S1024x1x200_S1024x200x200_0_1_2 main_v14
  let main_v17 : IVec S1024x200x200 1 := cmpi .ne main_v15 main_v16
  let main_v18 : IVec S1024x200x200 1 := ori main_v11 main_v17
  let main_v19 : IVec S1024x200x200 1 := broadcastInDim S1024x200x200 ![0, 1, 2] bcast_S1024x200x1_S1024x200x200_0_1_2 main_v12
  let main_v20 : IVec S1024x200x200 1 := andi main_v19 main_v18
  main_v20
-- ==== Pre_ranks_in_row.lean ====
abbrev S1024x200 : Shape := ⟨2, ![1024, 200]⟩
abbrev S_ : Shape := ⟨0, ![]⟩

class Facts : Prop where
  bcast_S_S1024x200 : S_.BroadcastsInDim S1024x200 (![] : Fin 0 → Fin S1024x200.rank)

variable [Facts]

def fn {F : FTy → Type} [FloatOps F] (main_arg0 : FVec F S1024x200 .f32) (main_arg1 : IVec S1024x200 32) : IVec S1024x200 1 :=
  let main_c : IVec S_ 32 := constantI S_ 32 1#32
  let main_v0 : IVec S1024x200 32 := broadcastInDim S1024x200 ![] bcast_S_S1024x200 main_c
  let main_v1 : IVec S1024x200 1 := cmpi .sge main_arg1 main_v0
  let main_c_0 : IVec S_ 32 := constantI S_ 32 200#32
  let main_v2 : IVec S1024x200 32 := broadcastInDim S1024x200 ![] bcast_S_S1024x200 main_c_0
  let main_v3 : IVec S1024x200 1 := cmpi .sle main_arg1 main_v2
  let main_v4 : IVec S1024x200 1 := andi main_v1 main_v3
  main_v4
-- ==== Kernel.lean ====
abbrev S1024x200 : Shape := ⟨2, ![1024, 200]⟩
abbrev S262144 : Shape := ⟨1, ![262144]⟩
abbrev S32x200 : Shape := ⟨2, ![32, 200]⟩
abbrev S8192 : Shape := ⟨1, ![8192]⟩
abbrev S_ : Shape := ⟨0, ![]⟩
abbrev S16x200 : Shape := ⟨2, ![16, 200]⟩
abbrev S16 : Shape := ⟨1, ![16]⟩
abbrev S1x16 : Shape := ⟨2, ![1, 16]⟩
abbrev S4096 : Shape := ⟨1, ![4096]⟩
abbrev S2048x128 : Shape := ⟨2, ![2048, 128]⟩
abbrev S1x1 : Shape := ⟨2, ![1, 1]⟩
abbrev S2048x1 : Shape := ⟨2, ![2048, 1]⟩
abbrev S2048 : Shape := ⟨1, ![2048]⟩
abbrev S2047x1 : Shape := ⟨2, ![2047, 1]⟩
abbrev S128x128 : Shape := ⟨2, ![128, 128]⟩
abbrev S1x2048x128 : Shape := ⟨3, ![1, 2048, 128]⟩
abbrev S1 : Shape := ⟨1, ![1]⟩
abbrev S1x1x1 : Shape := ⟨3, ![1, 1, 1]⟩

abbrev nBuf : Table → Nat
  | .hbm => 6
  | .local .tc .vmem => 2
  | .local .scVector .vmem => 3
  | _ => 0

abbrev bufTy : (tb : Table) → Fin (nBuf tb) → BufTy
  | .hbm, ⟨0, _⟩ => ⟨S1024x200, .f32⟩
  | .hbm, ⟨1, _⟩ => ⟨S1024x200, .i32⟩
  | .hbm, ⟨2, _⟩ => ⟨S262144, .f32⟩
  | .hbm, ⟨3, _⟩ => ⟨S2048x128, .f32⟩
  | .hbm, ⟨4, _⟩ => ⟨S1x1, .f32⟩
  | .hbm, ⟨5, _⟩ => ⟨S_, .f32⟩
  | .local .tc .vmem, ⟨0, _⟩ => ⟨S2048x128, .f32⟩
  | .local .tc .vmem, ⟨1, _⟩ => ⟨S1x1, .f32⟩
  | .local .scVector .vmem, ⟨0, _⟩ => ⟨S32x200, .f32⟩
  | .local .scVector .vmem, ⟨1, _⟩ => ⟨S32x200, .i32⟩
  | .local .scVector .vmem, ⟨2, _⟩ => ⟨S8192, .f32⟩
  | _, _ => ⟨S1024x200, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v11 : BitVec 32 := Scalar.addi v2 c16_i32
  let c0_i32_13 : BitVec 32 := 0#32
  ![v11.toNat, 0]
@[reducible] def k0_t1_loop : Scf.Loop 32 :=
  let c0_i32_37 : BitVec 32 := 0#32
  let c16_i32_38 : BitVec 32 := 16#32
  let v29 : BitVec 32 := Scalar.addi c0_i32_37 c16_i32_38
  let c1_i32 : BitVec 32 := 1#32
  ⟨c0_i32_37, v29, c1_i32⟩
def k0_off3 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v51 : Index := Scalar.indexCast arg11
  let c0 : Index := 0#32
  ![v51.toNat, 0]

def k0_chk1 (v58 : IVec S16 32) : Prop :=
  (∀ a x, ((![v58] : Fin 1 → IVec S16 32) a x).toNat < S8192.size a)
theorem k0_idx1_inb : ∀ (v58 : IVec S16 32) (k0_hw1 : k0_chk1 v58), ∀ a x, ((![v58] : Fin 1 → IVec S16 32) a x).toNat < S8192.size a := fun v58 k0_hw1 => k0_hw1
def k0_off4 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v59 : Index := Scalar.indexCast arg11
  let c16 : Index := 16#32
  ![v59.toNat, 16]

def k0_chk2 (v66 : IVec S16 32) : Prop :=
  (∀ a x, ((![v66] : Fin 1 → IVec S16 32) a x).toNat < S8192.size a)
theorem k0_idx2_inb : ∀ (v66 : IVec S16 32) (k0_hw2 : k0_chk2 v66), ∀ a x, ((![v66] : Fin 1 → IVec S16 32) a x).toNat < S8192.size a := fun v66 k0_hw2 => k0_hw2
def k0_off5 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v67 : Index := Scalar.indexCast arg11
  let c32 : Index := 32#32
  ![v67.toNat, 32]

def k0_chk3 (v74 : IVec S16 32) : Prop :=
  (∀ a x, ((![v74] : Fin 1 → IVec S16 32) a x).toNat < S8192.size a)
theorem k0_idx3_inb : ∀ (v74 : IVec S16 32) (k0_hw3 : k0_chk3 v74), ∀ a x, ((![v74] : Fin 1 → IVec S16 32) a x).toNat < S8192.size a := fun v74 k0_hw3 => k0_hw3
def k0_off6 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v75 : Index := Scalar.indexCast arg11
  let c48 : Index := 48#32
  ![v75.toNat, 48]

def k0_chk4 (v82 : IVec S16 32) : Prop :=
  (∀ a x, ((![v82] : Fin 1 → IVec S16 32) a x).toNat < S8192.size a)
theorem k0_idx4_inb : ∀ (v82 : IVec S16 32) (k0_hw4 : k0_chk4 v82), ∀ a x, ((![v82] : Fin 1 → IVec S16 32) a x).toNat < S8192.size a := fun v82 k0_hw4 => k0_hw4
def k0_off7 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v83 : Index := Scalar.indexCast arg11
  let c64 : Index := 64#32
  ![v83.toNat, 64]

def k0_chk5 (v90 : IVec S16 32) : Prop :=
  (∀ a x, ((![v90] : Fin 1 → IVec S16 32) a x).toNat < S8192.size a)
theorem k0_idx5_inb : ∀ (v90 : IVec S16 32) (k0_hw5 : k0_chk5 v90), ∀ a x, ((![v90] : Fin 1 → IVec S16 32) a x).toNat < S8192.size a := fun v90 k0_hw5 => k0_hw5
def k0_off8 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v91 : Index := Scalar.indexCast arg11
  let c80 : Index := 80#32
  ![v91.toNat, 80]

def k0_chk6 (v98 : IVec S16 32) : Prop :=
  (∀ a x, ((![v98] : Fin 1 → IVec S16 32) a x).toNat < S8192.size a)
theorem k0_idx6_inb : ∀ (v98 : IVec S16 32) (k0_hw6 : k0_chk6 v98), ∀ a x, ((![v98] : Fin 1 → IVec S16 32) a x).toNat < S8192.size a := fun v98 k0_hw6 => k0_hw6
def k0_off9 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v99 : Index := Scalar.indexCast arg11
  let c96 : Index := 96#32
  ![v99.toNat, 96]

def k0_chk7 (v106 : IVec S16 32) : Prop :=
  (∀ a x, ((![v106] : Fin 1 → IVec S16 32) a x).toNat < S8192.size a)
theorem k0_idx7_inb : ∀ (v106 : IVec S16 32) (k0_hw7 : k0_chk7 v106), ∀ a x, ((![v106] : Fin 1 → IVec S16 32) a x).toNat < S8192.size a := fun v106 k0_hw7 => k0_hw7
def k0_off10 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v107 : Index := Scalar.indexCast arg11
  let c112 : Index := 112#32
  ![v107.toNat, 112]

def k0_chk8 (v114 : IVec S16 32) : Prop :=
  (∀ a x, ((![v114] : Fin 1 → IVec S16 32) a x).toNat < S8192.size a)
theorem k0_idx8_inb : ∀ (v114 : IVec S16 32) (k0_hw8 : k0_chk8 v114), ∀ a x, ((![v114] : Fin 1 → IVec S16 32) a x).toNat < S8192.size a := fun v114 k0_hw8 => k0_hw8
def k0_off11 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v115 : Index := Scalar.indexCast arg11
  let c128 : Index := 128#32
  ![v115.toNat, 128]

def k0_chk9 (v122 : IVec S16 32) : Prop :=
  (∀ a x, ((![v122] : Fin 1 → IVec S16 32) a x).toNat < S8192.size a)
theorem k0_idx9_inb : ∀ (v122 : IVec S16 32) (k0_hw9 : k0_chk9 v122), ∀ a x, ((![v122] : Fin 1 → IVec S16 32) a x).toNat < S8192.size a := fun v122 k0_hw9 => k0_hw9
def k0_off12 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v123 : Index := Scalar.indexCast arg11
  let c144 : Index := 144#32
  ![v123.toNat, 144]

def k0_chk10 (v130 : IVec S16 32) : Prop :=
  (∀ a x, ((![v130] : Fin 1 → IVec S16 32) a x).toNat < S8192.size a)
theorem k0_idx10_inb : ∀ (v130 : IVec S16 32) (k0_hw10 : k0_chk10 v130), ∀ a x, ((![v130] : Fin 1 → IVec S16 32) a x).toNat < S8192.size a := fun v130 k0_hw10 => k0_hw10
def k0_off13 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v131 : Index := Scalar.indexCast arg11
  let c160 : Index := 160#32
  ![v131.toNat, 160]

def k0_chk11 (v138 : IVec S16 32) : Prop :=
  (∀ a x, ((![v138] : Fin 1 → IVec S16 32) a x).toNat < S8192.size a)
theorem k0_idx11_inb : ∀ (v138 : IVec S16 32) (k0_hw11 : k0_chk11 v138), ∀ a x, ((![v138] : Fin 1 → IVec S16 32) a x).toNat < S8192.size a := fun v138 k0_hw11 => k0_hw11
def k0_off14 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v139 : Index := Scalar.indexCast arg11
  let c176 : Index := 176#32
  ![v139.toNat, 176]

def k0_chk12 (v146 : IVec S16 32) : Prop :=
  (∀ a x, ((![v146] : Fin 1 → IVec S16 32) a x).toNat < S8192.size a)
theorem k0_idx12_inb : ∀ (v146 : IVec S16 32) (k0_hw12 : k0_chk12 v146), ∀ a x, ((![v146] : Fin 1 → IVec S16 32) a x).toNat < S8192.size a := fun v146 k0_hw12 => k0_hw12
def k0_off15 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let v147 : Index := Scalar.indexCast arg11
  let c184 : Index := 184#32
  ![v147.toNat, 184]

def k0_chk13 (v154 : IVec S16 32) : Prop :=
  (∀ a x, ((![v154] : Fin 1 → IVec S16 32) a x).toNat < S8192.size a)
theorem k0_idx13_inb : ∀ (v154 : IVec S16 32) (k0_hw13 : k0_chk13 v154), ∀ a x, ((![v154] : Fin 1 → IVec S16 32) a x).toNat < S8192.size a := fun v154 k0_hw13 => k0_hw13
def k0_off16 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v30 : BitVec 32 := Scalar.muli v1 c8192_i32
  ![v30.toNat]
@[reducible] def k0_t2_loop : Scf.Loop 32 :=
  let c16_i32_55 : BitVec 32 := 16#32
  let c16_i32_56 : BitVec 32 := 16#32
  let v43 : BitVec 32 := Scalar.addi c16_i32_55 c16_i32_56
  let c1_i32_57 : BitVec 32 := 1#32
  ⟨c16_i32_55, v43, c1_i32_57⟩
def k0_off17 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v52 : Index := Scalar.indexCast arg11
  let c0 : Index := 0#32
  ![v52.toNat, 0]

def k0_chk14 (v59 : IVec S16 32) : Prop :=
  (∀ a x, ((![v59] : Fin 1 → IVec S16 32) a x).toNat < S4096.size a)
theorem k0_idx14_inb : ∀ (v59 : IVec S16 32) (k0_hw14 : k0_chk14 v59), ∀ a x, ((![v59] : Fin 1 → IVec S16 32) a x).toNat < S4096.size a := fun v59 k0_hw14 => k0_hw14
def k0_off18 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v61 : Index := Scalar.indexCast arg11
  let c16 : Index := 16#32
  ![v61.toNat, 16]

def k0_chk15 (v68 : IVec S16 32) : Prop :=
  (∀ a x, ((![v68] : Fin 1 → IVec S16 32) a x).toNat < S4096.size a)
theorem k0_idx15_inb : ∀ (v68 : IVec S16 32) (k0_hw15 : k0_chk15 v68), ∀ a x, ((![v68] : Fin 1 → IVec S16 32) a x).toNat < S4096.size a := fun v68 k0_hw15 => k0_hw15
def k0_off19 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v70 : Index := Scalar.indexCast arg11
  let c32 : Index := 32#32
  ![v70.toNat, 32]

def k0_chk16 (v77 : IVec S16 32) : Prop :=
  (∀ a x, ((![v77] : Fin 1 → IVec S16 32) a x).toNat < S4096.size a)
theorem k0_idx16_inb : ∀ (v77 : IVec S16 32) (k0_hw16 : k0_chk16 v77), ∀ a x, ((![v77] : Fin 1 → IVec S16 32) a x).toNat < S4096.size a := fun v77 k0_hw16 => k0_hw16
def k0_off20 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v79 : Index := Scalar.indexCast arg11
  let c48 : Index := 48#32
  ![v79.toNat, 48]

def k0_chk17 (v86 : IVec S16 32) : Prop :=
  (∀ a x, ((![v86] : Fin 1 → IVec S16 32) a x).toNat < S4096.size a)
theorem k0_idx17_inb : ∀ (v86 : IVec S16 32) (k0_hw17 : k0_chk17 v86), ∀ a x, ((![v86] : Fin 1 → IVec S16 32) a x).toNat < S4096.size a := fun v86 k0_hw17 => k0_hw17
def k0_off21 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v88 : Index := Scalar.indexCast arg11
  let c64 : Index := 64#32
  ![v88.toNat, 64]

def k0_chk18 (v95 : IVec S16 32) : Prop :=
  (∀ a x, ((![v95] : Fin 1 → IVec S16 32) a x).toNat < S4096.size a)
theorem k0_idx18_inb : ∀ (v95 : IVec S16 32) (k0_hw18 : k0_chk18 v95), ∀ a x, ((![v95] : Fin 1 → IVec S16 32) a x).toNat < S4096.size a := fun v95 k0_hw18 => k0_hw18
def k0_off22 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v97 : Index := Scalar.indexCast arg11
  let c80 : Index := 80#32
  ![v97.toNat, 80]

def k0_chk19 (v104 : IVec S16 32) : Prop :=
  (∀ a x, ((![v104] : Fin 1 → IVec S16 32) a x).toNat < S4096.size a)
theorem k0_idx19_inb : ∀ (v104 : IVec S16 32) (k0_hw19 : k0_chk19 v104), ∀ a x, ((![v104] : Fin 1 → IVec S16 32) a x).toNat < S4096.size a := fun v104 k0_hw19 => k0_hw19
def k0_off23 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v106 : Index := Scalar.indexCast arg11
  let c96 : Index := 96#32
  ![v106.toNat, 96]

def k0_chk20 (v113 : IVec S16 32) : Prop :=
  (∀ a x, ((![v113] : Fin 1 → IVec S16 32) a x).toNat < S4096.size a)
theorem k0_idx20_inb : ∀ (v113 : IVec S16 32) (k0_hw20 : k0_chk20 v113), ∀ a x, ((![v113] : Fin 1 → IVec S16 32) a x).toNat < S4096.size a := fun v113 k0_hw20 => k0_hw20
def k0_off24 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v115 : Index := Scalar.indexCast arg11
  let c112 : Index := 112#32
  ![v115.toNat, 112]

def k0_chk21 (v122 : IVec S16 32) : Prop :=
  (∀ a x, ((![v122] : Fin 1 → IVec S16 32) a x).toNat < S4096.size a)
theorem k0_idx21_inb : ∀ (v122 : IVec S16 32) (k0_hw21 : k0_chk21 v122), ∀ a x, ((![v122] : Fin 1 → IVec S16 32) a x).toNat < S4096.size a := fun v122 k0_hw21 => k0_hw21
def k0_off25 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v124 : Index := Scalar.indexCast arg11
  let c128 : Index := 128#32
  ![v124.toNat, 128]

def k0_chk22 (v131 : IVec S16 32) : Prop :=
  (∀ a x, ((![v131] : Fin 1 → IVec S16 32) a x).toNat < S4096.size a)
theorem k0_idx22_inb : ∀ (v131 : IVec S16 32) (k0_hw22 : k0_chk22 v131), ∀ a x, ((![v131] : Fin 1 → IVec S16 32) a x).toNat < S4096.size a := fun v131 k0_hw22 => k0_hw22
def k0_off26 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v133 : Index := Scalar.indexCast arg11
  let c144 : Index := 144#32
  ![v133.toNat, 144]

def k0_chk23 (v140 : IVec S16 32) : Prop :=
  (∀ a x, ((![v140] : Fin 1 → IVec S16 32) a x).toNat < S4096.size a)
theorem k0_idx23_inb : ∀ (v140 : IVec S16 32) (k0_hw23 : k0_chk23 v140), ∀ a x, ((![v140] : Fin 1 → IVec S16 32) a x).toNat < S4096.size a := fun v140 k0_hw23 => k0_hw23
def k0_off27 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v142 : Index := Scalar.indexCast arg11
  let c160 : Index := 160#32
  ![v142.toNat, 160]

def k0_chk24 (v149 : IVec S16 32) : Prop :=
  (∀ a x, ((![v149] : Fin 1 → IVec S16 32) a x).toNat < S4096.size a)
theorem k0_idx24_inb : ∀ (v149 : IVec S16 32) (k0_hw24 : k0_chk24 v149), ∀ a x, ((![v149] : Fin 1 → IVec S16 32) a x).toNat < S4096.size a := fun v149 k0_hw24 => k0_hw24
def k0_off28 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v151 : Index := Scalar.indexCast arg11
  let c176 : Index := 176#32
  ![v151.toNat, 176]

def k0_chk25 (v158 : IVec S16 32) : Prop :=
  (∀ a x, ((![v158] : Fin 1 → IVec S16 32) a x).toNat < S4096.size a)
theorem k0_idx25_inb : ∀ (v158 : IVec S16 32) (k0_hw25 : k0_chk25 v158), ∀ a x, ((![v158] : Fin 1 → IVec S16 32) a x).toNat < S4096.size a := fun v158 k0_hw25 => k0_hw25
def k0_off29 (k0_t2 : Fin k0_t2_loop.trips) : Fin 2 → Nat :=
  let c16_i32_55 : BitVec 32 := 16#32
  let c1_i32_57 : BitVec 32 := 1#32
  let arg11 : BitVec 32 := Scf.iv c16_i32_55 c1_i32_57 k0_t2
  let v160 : Index := Scalar.indexCast arg11
  let c184 : Index := 184#32
  ![v160.toNat, 184]

def k0_chk26 (v167 : IVec S16 32) : Prop :=
  (∀ a x, ((![v167] : Fin 1 → IVec S16 32) a x).toNat < S4096.size a)
theorem k0_idx26_inb : ∀ (v167 : IVec S16 32) (k0_hw26 : k0_chk26 v167), ∀ a x, ((![v167] : Fin 1 → IVec S16 32) a x).toNat < S4096.size a := fun v167 k0_hw26 => k0_hw26
def k0_off30 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_61 : BitVec 32 := 8192#32
  let v48 : BitVec 32 := Scalar.muli v1 c8192_i32_61
  let c4096_i32 : BitVec 32 := 4096#32
  let v49 : BitVec 32 := Scalar.addi v48 c4096_i32
  ![v49.toNat]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S1024x200x1 : Shape := ⟨3, ![1024, 200, 1]⟩
abbrev S1024x200x200 : Shape := ⟨3, ![1024, 200, 200]⟩
abbrev S_ : Shape := ⟨0, ![]⟩
abbrev S204800x201 : Shape := ⟨2, ![204800, 201]⟩
abbrev S204800 : Shape := ⟨1, ![204800]⟩
abbrev S204800x1 : Shape := ⟨2, ![204800, 1]⟩
abbrev S204800x2 : Shape := ⟨2, ![204800, 2]⟩
abbrev S204800x200 : Shape := ⟨2, ![204800, 200]⟩
abbrev S1024x1x200 : Shape := ⟨3, ![1024, 1, 200]⟩
abbrev S1024x1x200x1 : Shape := ⟨4, ![1024, 1, 200, 1]⟩
abbrev S1 : Shape := ⟨1, ![1]⟩
abbrev S1x1x1x1 : Shape := ⟨4, ![1, 1, 1, 1]⟩

abbrev nBuf : Space → Nat
  | .hbm => 81
  | .vmem => 0
  | .smem => 0
  | _ => 0

abbrev bufTy : (tb : Table) → Fin (tcTables nBuf tb) → BufTy
  | .hbm, ⟨0, _⟩ => ⟨S1024x200, .f32⟩
  | .hbm, ⟨1, _⟩ => ⟨S1024x200, .i32⟩
  | .hbm, ⟨2, _⟩ => ⟨S1024x200x1, .f32⟩
  | .hbm, ⟨3, _⟩ => ⟨S1024x200x200, .f32⟩
  | .hbm, ⟨4, _⟩ => ⟨S_, .f32⟩
  | .hbm, ⟨5, _⟩ => ⟨S204800x201, .f32⟩
  | .hbm, ⟨6, _⟩ => ⟨S204800, .i32⟩
  | .hbm, ⟨7, _⟩ => ⟨S204800, .i32⟩
  | .hbm, ⟨8, _⟩ => ⟨S_, .i32⟩
  | .hbm, ⟨9, _⟩ => ⟨S204800, .i32⟩
  | .hbm, ⟨10, _⟩ => ⟨S204800, .i1⟩
  | .hbm, ⟨11, _⟩ => ⟨S_, .i32⟩
  | .hbm, ⟨12, _⟩ => ⟨S204800, .i32⟩
  | .hbm, ⟨13, _⟩ => ⟨S204800, .i32⟩
  | .hbm, ⟨14, _⟩ => ⟨S204800, .i32⟩
  | .hbm, ⟨15, _⟩ => ⟨S_, .i32⟩
  | .hbm, ⟨16, _⟩ => ⟨S204800, .i32⟩
  | .hbm, ⟨17, _⟩ => ⟨S204800, .i1⟩
  | .hbm, ⟨18, _⟩ => ⟨S_, .i32⟩
  | .hbm, ⟨19, _⟩ => ⟨S204800, .i32⟩
  | .hbm, ⟨20, _⟩ => ⟨S204800, .i32⟩
  | .hbm, ⟨21, _⟩ => ⟨S204800, .i32⟩
  | .hbm, ⟨22, _⟩ => ⟨S204800x1, .i32⟩
  | .hbm, ⟨23, _⟩ => ⟨S204800x1, .i32⟩
  | .hbm, ⟨24, _⟩ => ⟨S204800x2, .i32⟩
  | .hbm, ⟨25, _⟩ => ⟨S_, .f32⟩
  | .hbm, ⟨26, _⟩ => ⟨S204800, .f32⟩
  | .hbm, ⟨27, _⟩ => ⟨S204800x201, .f32⟩
  | .hbm, ⟨28, _⟩ => ⟨S_, .f32⟩
  | .hbm, ⟨29, _⟩ => ⟨S_, .f32⟩
  | .hbm, ⟨30, _⟩ => ⟨S204800x201, .f32⟩
  | .hbm, ⟨31, _⟩ => ⟨S204800x200, .f32⟩
  | .hbm, ⟨32, _⟩ => ⟨S1024x200x200, .f32⟩
  | .hbm, ⟨33, _⟩ => ⟨S1024x200x200, .f32⟩
  | .hbm, ⟨34, _⟩ => ⟨S1024x200, .i32⟩
  | .hbm, ⟨35, _⟩ => ⟨S1024x200, .i32⟩
  | .hbm, ⟨36, _⟩ => ⟨S1024x200, .i32⟩
  | .hbm, ⟨37, _⟩ => ⟨S_, .f32⟩
  | .hbm, ⟨38, _⟩ => ⟨S1024x200, .f32⟩
  | .hbm, ⟨39, _⟩ => ⟨S_, .f32⟩
  | .hbm, ⟨40, _⟩ => ⟨S1024x200, .f32⟩
  | .hbm, ⟨41, _⟩ => ⟨S1024x200, .f32⟩
  | .hbm, ⟨42, _⟩ => ⟨S1024x1x200, .f32⟩
  | .hbm, ⟨43, _⟩ => ⟨S1024x200x200, .f32⟩
  | .hbm, ⟨44, _⟩ => ⟨S1024x200x200, .f32⟩
  | .hbm, ⟨45, _⟩ => ⟨S1024x200x200, .f32⟩
  | .hbm, ⟨46, _⟩ => ⟨S_, .f32⟩
  | .hbm, ⟨47, _⟩ => ⟨S1024x200, .f32⟩
  | .hbm, ⟨48, _⟩ => ⟨S1024x1x200, .f32⟩
  | .hbm, ⟨49, _⟩ => ⟨S1024x1x200, .f32⟩
  | .hbm, ⟨50, _⟩ => ⟨S1024x200x200, .f32⟩
  | .hbm, ⟨51, _⟩ => ⟨S1024x200x200, .f32⟩
  | .hbm, ⟨52, _⟩ => ⟨S1024x1x200, .i32⟩
  | .hbm, ⟨53, _⟩ => ⟨S_, .i32⟩
  | .hbm, ⟨54, _⟩ => ⟨S1024x1x200, .i32⟩
  | .hbm, ⟨55, _⟩ => ⟨S1024x1x200, .i1⟩
  | .hbm, ⟨56, _⟩ => ⟨S_, .i32⟩
  | .hbm, ⟨57, _⟩ => ⟨S1024x1x200, .i32⟩
  | .hbm, ⟨58, _⟩ => ⟨S1024x1x200, .i32⟩
  | .hbm, ⟨59, _⟩ => ⟨S1024x1x200, .i32⟩
  | .hbm, ⟨60, _⟩ => ⟨S1024x1x200x1, .i32⟩
  | .hbm, ⟨61, _⟩ => ⟨S1, .i32⟩
  | .hbm, ⟨62, _⟩ => ⟨S_, .i32⟩
  | .hbm, ⟨63, _⟩ => ⟨S1024x1x200x1, .i32⟩
  | .hbm, ⟨64, _⟩ => ⟨S1024x1x200x1, .i1⟩
  | .hbm, ⟨65, _⟩ => ⟨S1x1x1x1, .i32⟩
  | .hbm, ⟨66, _⟩ => ⟨S1024x1x200x1, .i32⟩
  | .hbm, ⟨67, _⟩ => ⟨S1024x1x200x1, .i1⟩
  | .hbm, ⟨68, _⟩ => ⟨S1024x1x200x1, .i1⟩
  | .hbm, ⟨69, _⟩ => ⟨S_, .i1⟩
  | .hbm, ⟨70, _⟩ => ⟨S1024x1x200, .i1⟩
  | .hbm, ⟨71, _⟩ => ⟨S1024x1x200, .f32⟩
  | .hbm, ⟨72, _⟩ => ⟨S_, .f32⟩
  | .hbm, ⟨73, _⟩ => ⟨S1024x1x200, .f32⟩
  | .hbm, ⟨74, _⟩ => ⟨S1024x1x200, .f32⟩
  | .hbm, ⟨75, _⟩ => ⟨S1024x200, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S1024x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_call0_call0_cst : Ref sig .tc := ⟨.hbm, 28, rfl⟩
abbrev main_call0_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_call1_v1_0 : Ref sig .tc := ⟨.hbm, 35, rfl⟩
abbrev main_v24 : Ref sig .tc := ⟨.hbm, 36, rfl⟩
abbrev main_call2_cst : Ref sig .tc := ⟨.hbm, 37, rfl⟩
abbrev main_call2_v0 : Ref sig .tc := ⟨.hbm, 38, rfl⟩
abbrev main_call2_cst_0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_cst_1 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_v25 : Ref sig .tc := ⟨.hbm, 51, rfl⟩
abbrev main_v26 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_cst : Ref sig .tc := ⟨.hbm, 72, rfl⟩
abbrev main_call3_v14 : Ref sig .tc := ⟨.hbm, 73, rfl⟩
abbrev main_v27 : Ref sig .tc := ⟨.hbm, 74, rfl⟩
abbrev main_v28 : Ref sig .tc := ⟨.hbm, 75, rfl⟩
abbrev main_cst_4 : Ref sig .tc := ⟨.hbm, 76, rfl⟩
abbrev main_v29 : Ref sig .tc := ⟨.hbm, 77, rfl⟩
abbrev main_cst_5 : Ref sig .tc := ⟨.hbm, 78, rfl⟩
abbrev main_v30 : Ref sig .tc := ⟨.hbm, 79, rfl⟩
abbrev main_v31 : Ref sig .tc := ⟨.hbm, 80, rfl⟩

abbrev nD : Nat := 1
abbrev τ : Topo := Topo.v7x

variable {F : FTy → Type} [FloatOps F]
-- ==== Proof.Placed.lean ====
/-
  What a scatter leaves in a buffer, as pure facts: `Placed` says that the rows done so far put each score in the slot
  its rank names (when no other column of the row has that rank), and one scatter of sixteen lanes extends it by
  sixteen columns.
-/
module

public import Idealize.ShloMosaic.Lib.SparseCore.Ops
public import Idealize.ShloMosaic.Lib.ValueIdxCore
public import Idealize.ShloMosaic.Lib.Pipeline.Value

@[expose] public section

noncomputable section

namespace Cert.Proof.Placed

open Idealize.ShloMosaic

variable {F : FTy → Type} [FloatOps F]

/-- A fold of guarded overwrites leaves `c` at a slot when every overwrite of the slot writes `c` and either one
    happens or the slot held `c` before. -/
theorem foldl_overwrite {ι α β : Type} (l : List ι) (hit : ι → α → Prop) [∀ i, DecidablePred (hit i)] (v : ι → β) (g : α → β)
    (x : α) (c : β) (h1 : ∀ i ∈ l, hit i x → v i = c) (h2 : (∃ i ∈ l, hit i x) ∨ g x = c) :
    l.foldl (fun g i => fun j => if hit i j then v i else g j) g x = c := by
  induction l generalizing g with
  | nil =>
      rcases h2 with ⟨i, hi, _⟩ | h
      · exact absurd hi (by simp)
      · exact h
  | cons a l ih =>
      refine ih _ (fun i hi => h1 i (List.mem_cons_of_mem _ hi)) ?_
      rcases Classical.em (hit a x) with ha | ha
      · exact .inr (by simp only [if_pos ha]; exact h1 a List.mem_cons_self ha)
      · rcases h2 with ⟨i, hi, hx⟩ | h
        · rcases List.mem_cons.mp hi with rfl | hi
          · exact absurd hx ha
          · exact .inl ⟨i, hi, hx⟩
        · exact .inr (by simp only [if_neg ha]; exact h)

variable {D : ℕ}

/-- A sixteen-lane scatter leaves `c` at slot `x` when every lane naming `x` carries `c`, and a lane names `x` or the
    slot held `c`. -/
theorem storeIdx_apply (f : Vec F ⟨1, ![D]⟩ .f32) (v : IVec ⟨1, ![16]⟩ 32) (w : Vec F ⟨1, ![16]⟩ .f32)
    (h : ∀ a x, ((![v] : Fin 1 → IVec ⟨1, ![16]⟩ 32) a x).toNat < (⟨1, ![D]⟩ : Shape).size a)
    (x : (⟨1, ![D]⟩ : Shape).Idx) (c : F .f32)
    (h1 : ∀ y, (v y).toNat = (x 0).val → w y = c) (h2 : (∃ y, (v y).toNat = (x 0).val) ∨ f x = c) :
    storeIdx f ![v] w (fun _ => 1#1) false h x = c := by
  unfold storeIdx
  simp only [if_true, Bool.false_eq_true, if_false]
  have key : ∀ k : Fin 16, (∀ a, (x a).val = (idxAt (![v] : Fin 1 → IVec ⟨1, ![16]⟩ 32) h (Shape.ofLane k) a).val)
      ↔ (v (Shape.ofLane k)).toNat = (x 0).val := by
    intro k
    constructor
    · intro hh; exact (hh 0).symm
    · intro hh a
      match a with
      | ⟨0, _⟩ => exact hh.symm
  refine foldl_overwrite (List.finRange 16) (fun k j => ∀ a, (j a).val = (idxAt (![v] : Fin 1 → IVec ⟨1, ![16]⟩ 32) h (Shape.ofLane k) a).val)
    (fun k => w (Shape.ofLane k)) f x c (fun k _ hk => h1 _ ((key k).mp hk)) ?_
  rcases h2 with ⟨y, hy⟩ | h2
  · refine .inl ⟨y 0, List.mem_finRange _, (key _).mpr ?_⟩
    have : Shape.ofLane (d := ![16]) (y 0) = y := by
      funext a; match a with | ⟨0, _⟩ => rfl
    rw [this]; exact hy
  · exact .inr h2

/-- No other of row `b`'s two hundred columns has column `k`'s rank. -/
def Uniq (od : ℕ → ℕ → BitVec 32) (b k : ℕ) : Prop := ∀ k', k' < 200 → k' ≠ k → od b k' ≠ od b k

/-- The buffer after rows `0 … r-1` (counted from row `R`) and the first `n` columns of row `r`: the score of a column
    whose rank is its own stands at slot `256 * row + rank - 1`. -/
def Placed (sc : ℕ → ℕ → F .f32) (od : ℕ → ℕ → BitVec 32) (R r n : ℕ) (f : Vec F ⟨1, ![D]⟩ .f32) : Prop :=
  ∀ r' k, (r' < r ∨ r' = r ∧ k < n) → k < 200 → Uniq od (R + r') k →
    ∀ x : (⟨1, ![D]⟩ : Shape).Idx, (x 0).val + 1 = r' * 256 + (od (R + r') k).toNat → f x = sc (R + r') k

/-- Ranks are in range: `1 ≤ rank ≤ 200`. -/
def InRange (od : ℕ → ℕ → BitVec 32) : Prop := ∀ b k, 1 ≤ (od b k).toNat ∧ (od b k).toNat ≤ 200

theorem Placed.zero (sc : ℕ → ℕ → F .f32) (od : ℕ → ℕ → BitVec 32) (R : ℕ) (f : Vec F ⟨1, ![D]⟩ .f32) : Placed sc od R 0 0 f := by
  intro r' k h; omega

theorem Placed.row {sc : ℕ → ℕ → F .f32} {od : ℕ → ℕ → BitVec 32} {R r : ℕ} {f : Vec F ⟨1, ![D]⟩ .f32}
    (h : Placed sc od R r 200 f) : Placed sc od R (r + 1) 0 f := by
  intro r' k hr hk
  exact h r' k (by omega) hk

theorem Placed.step {sc : ℕ → ℕ → F .f32} {od : ℕ → ℕ → BitVec 32} {R r n : ℕ} {f : Vec F ⟨1, ![D]⟩ .f32} (hod : InRange od)
    (hP : Placed sc od R r n f) (col : ℕ) (hcol : col ≤ n) (hcol' : col + 16 ≤ 200)
    (v : IVec ⟨1, ![16]⟩ 32) (w : Vec F ⟨1, ![16]⟩ .f32)
    (h : ∀ a x, ((![v] : Fin 1 → IVec ⟨1, ![16]⟩ 32) a x).toNat < (⟨1, ![D]⟩ : Shape).size a)
    (hv : ∀ y, (v y).toNat + 1 = r * 256 + (od (R + r) (col + (y 0).val)).toNat)
    (hw : ∀ y, w y = sc (R + r) (col + (y 0).val)) :
    Placed sc od R r (col + 16) (storeIdx f ![v] w (fun _ => 1#1) false h) := by
  intro r' k hrk hk hu x hx
  have hlane : ∀ y : (⟨1, ![16]⟩ : Shape).Idx, (y 0).val < 16 := fun y => (y 0).isLt
  have hr1 := hod (R + r') k
  refine storeIdx_apply f v w h x _ (fun y hy => ?_) ?_
  · have h1 := hv y
    have hr2 := hod (R + r) (col + (y 0).val)
    have hrr : r' = r := by omega
    subst hrr
    have he : od (R + r') (col + (y 0).val) = od (R + r') k := BitVec.eq_of_toNat_eq (by omega)
    have := hlane y
    by_cases hkk : col + (y 0).val = k
    · rw [hw, hkk]
    · exact absurd he (hu _ (by omega) hkk)
  · by_cases hin : r' = r ∧ col ≤ k ∧ k < col + 16
    · obtain ⟨rfl, hk1, hk2⟩ := hin
      refine .inl ⟨ValueIdx.ix1 ⟨k - col, by omega⟩, ?_⟩
      have h1 := hv (ValueIdx.ix1 ⟨k - col, by omega⟩)
      have : col + (k - col) = k := by omega
      simp only [this] at h1
      omega
    · refine .inr (hP r' k ?_ hk hu x hx)
      by_cases h3 : r' = r
      · exact .inr ⟨h3, by omega⟩
      · exact .inl (by omega)

end Cert.Proof.Placed
-- ==== Proof.Setup.lean ====
/-
  The SparseCore call as the launch theorem sees it: the program's tables, the resource algebra, the locations, and the
  views the task uses, with the sets of elements they cover.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Placed

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Placed

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the pipelined call's rounds library, the transfers' counters -/

abbrev UH : Type := URounds (GSem nD τ sig) ℕ
abbrev UP : Type := UR sig nD τ × Counters
abbrev UU : Type := UH × UP

local notation "𝕄" => MT nD τ sig (HIx 1) (Elt F) ℕ UU ℕ

abbrev EH : Emb UH (MT nD τ sig (HIx 1) (Elt F) ℕ UU ℕ) := embL
/-- The pipelined call's cells: the left of the right component. -/
def EP : Emb (UR sig nD τ) (MT nD τ sig (HIx 1) (Elt F) ℕ UU ℕ) :=
  (Emb.inl : Emb (UR sig nD τ) UP).trans embR

instance EP_landsIn : (EP : Emb (UR sig nD τ) 𝕄).LandsIn (upEmb : UEmb _ 𝕄) := by unfold EP; infer_instance

/-! ## The locations and the task's views -/

/-- The scores, the ranks and the scattered scores, as locations of device `d`. -/
abbrev xLoc (d : Dev nD) : Loc nD τ sig := (SparseCore.T d).loc main_arg0
abbrev yLoc (d : Dev nD) : Loc nD τ sig := (SparseCore.T d).loc main_arg1
abbrev oLoc (d : Dev nD) : Loc nD τ sig := (SparseCore.T d).loc main_v0

/-- The kernel's memrefs as its body table passes them. -/
abbrev xV : Memref sig .scVector .hbm S1024x200 .f32 := Memref.whole main_arg0_scv
abbrev yV : Memref sig .scVector .hbm S1024x200 .i32 := Memref.whole main_arg1_scv
abbrev oV : Memref sig .scVector .hbm S262144 .f32 := Memref.whole main_v0_scv
abbrev aV : Memref sig .scVector .vmem S32x200 .f32 := Memref.whole cc0_scratch0
abbrev bV : Memref sig .scVector .vmem S32x200 .i32 := Memref.whole cc0_scratch1
abbrev rV : Memref sig .scVector .vmem S8192 .f32 := Memref.whole cc0_scratch2

abbrev cV (L : grid0.Coords) : Fin τ.nSC := (L 0).castLE hcore0
abbrev jV (L : grid0.Coords) : Fin τ.nSub := (L 1).castLE hsub0
/-- The vector subcore that runs the task at `L`. -/
abbrev thr (d : Dev nD) (L : grid0.Coords) : Thread nD τ := V d (cV L) (jV L)

/-- The first of the task's rows. -/
abbrev row0 (L : grid0.Coords) : ℕ := 64 * (L 1).val + 32 * (L 0).val

/-- The task's two halves of the scores and of the ranks, of its scratches, and of the result. -/
abbrev x1V (L : grid0.Coords) : Memref sig .scVector .hbm S16x200 .f32 := xV.slice (Rect.unit (s := S1024x200) (k0_off1 L) S16x200.size (k0_off1_inb L)) (fun _ => rfl)
abbrev x2V (L : grid0.Coords) : Memref sig .scVector .hbm S16x200 .f32 := xV.slice (Rect.unit (s := S1024x200) (k0_off2 L) S16x200.size (k0_off2_inb L)) (fun _ => rfl)
abbrev y1V (L : grid0.Coords) : Memref sig .scVector .hbm S16x200 .i32 := yV.slice (Rect.unit (s := S1024x200) (k0_off1 L) S16x200.size (k0_off1_inb L)) (fun _ => rfl)
abbrev y2V (L : grid0.Coords) : Memref sig .scVector .hbm S16x200 .i32 := yV.slice (Rect.unit (s := S1024x200) (k0_off2 L) S16x200.size (k0_off2_inb L)) (fun _ => rfl)
abbrev a1V : Memref sig .scVector .vmem S16x200 .f32 := aV.slice (Rect.unit (s := S32x200) ![0, 0] S16x200.size inb_S32x200_S16x200_0_0) (fun _ => rfl)
abbrev a2V : Memref sig .scVector .vmem S16x200 .f32 := aV.slice (Rect.unit (s := S32x200) ![16, 0] S16x200.size inb_S32x200_S16x200_16_0) (fun _ => rfl)
abbrev b1V : Memref sig .scVector .vmem S16x200 .i32 := bV.slice (Rect.unit (s := S32x200) ![0, 0] S16x200.size inb_S32x200_S16x200_0_0) (fun _ => rfl)
abbrev b2V : Memref sig .scVector .vmem S16x200 .i32 := bV.slice (Rect.unit (s := S32x200) ![16, 0] S16x200.size inb_S32x200_S16x200_16_0) (fun _ => rfl)
abbrev r1V : Memref sig .scVector .vmem S4096 .f32 := rV.slice (Rect.unit (s := S8192) ![0] S4096.size inb_S8192_S4096_0) (fun _ => rfl)
abbrev r2V : Memref sig .scVector .vmem S4096 .f32 := rV.slice (Rect.unit (s := S8192) ![4096] S4096.size inb_S8192_S4096_4096) (fun _ => rfl)
abbrev o1V (L : grid0.Coords) : Memref sig .scVector .hbm S4096 .f32 := oV.slice (Rect.unit (s := S262144) (k0_off16 L) S4096.size (k0_off16_inb L)) (fun _ => rfl)
abbrev o2V (L : grid0.Coords) : Memref sig .scVector .hbm S4096 .f32 := oV.slice (Rect.unit (s := S262144) (k0_off30 L) S4096.size (k0_off30_inb L)) (fun _ => rfl)

end Cert.Proof.Sc
-- ==== Proof.Chunk.lean ====
/-
  One chunk of a row: load sixteen scores and sixteen ranks, form the slots, scatter. The rule says what it does to a
  buffer whose rows so far are `Placed`; the two loops apply it thirteen times to a row.
-/
module

public import proofs.«01_k».proof.Proof.Setup
public import Idealize.ShloMosaic.Lib.Pipeline.ValueKit.Geometry

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Placed
open Idealize.ShloMosaic.ValueKit (rect_emb_unit_val)

variable {F : FTy → Type}

local notation "𝕄" => MT nD τ sig (HIx 1) (Elt F) ℕ UU ℕ

/-- Sixteen lanes of row `ρ` from column `col`, of what a scratch of 32 rows holds. -/
theorem lanes_apply {e : EltTy} (off : Fin 2 → ℕ) (ρ col : ℕ)
    (hoff : off = ![ρ, col]) (inb : ∀ a, off a + S1x16.size a ≤ S32x200.size a)
    (f : Vec F S32x200 e) (y : S16.Idx) (hρ : ρ < 32) (hc : col + (y 0).val < 200) :
    shapeCast S16 (fun j : S1x16.Idx => f ((Rect.unit (s := S32x200) off S1x16.size inb).emb j)) shapeCasts_S1x16_S16 y
      = f (ValueIdx.ix2 ⟨ρ, hρ⟩ ⟨col + (y 0).val, hc⟩) := by
  subst hoff
  refine (shapeCast_dropUnit_apply ![16] _ _ y).trans ?_
  congr 1
  refine Shape.idx_ext₂ ?_ ?_
  · exact (rect_emb_unit_val _ _ _ _ _).trans (Nat.add_zero ρ)
  · exact rect_emb_unit_val _ _ _ _ _

/-- The slots a chunk computes: rank less one, plus the row's first slot. -/
theorem slot_toNat (o vb : BitVec 32) (B : ℕ) (hB : vb.toNat = B) (hB' : B ≤ 8192) (ho : 1 ≤ o.toNat ∧ o.toNat ≤ 200) :
    (o - 1#32 + vb).toNat + 1 = B + o.toNat := by
  rw [BitVec.toNat_add, BitVec.toNat_sub, hB]
  have : (1#32).toNat = 1 := rfl
  rw [this]
  omega

variable [FloatOps F] (d : Dev nD) (L : grid0.Coords)

/-- The row `ρ` of a scratch holds row `b` of the scores. -/
def RowIs {α : Type} (f : S32x200.Idx → α) (ρ : ℕ) (g : ℕ → α) : Prop :=
  ∀ (hρ : ρ < 32) (k : Fin 200), f (ValueIdx.ix2 ⟨ρ, hρ⟩ k) = g k.val

section Chunk

variable {n : ℕ} (base : Memref sig .scVector .vmem ⟨1, ![n]⟩ .f32)
  (SA : Finset (Idx ((aV).view.loc (thr d L)))) (SB : Finset (Idx ((bV).view.loc (thr d L))))
  (fa : Buf (Elt F) ((aV).view.loc (thr d L))) (fb : Buf (Elt F) ((bV).view.loc (thr d L)))
  (sc : ℕ → ℕ → F .f32) (od : ℕ → ℕ → BitVec 32)

/-- What the loop holds inside row `r` (counted from row `R`) after `c` columns: the two scratches' elements, and the
    buffer being scattered into, its slots so far in place. -/
def Row (R r c : ℕ) : sProp 𝕄 :=
  iprop(((aV).view.loc (thr d L) ↦[SA]{fullShare} fa) ∗ ((bV).view.loc (thr d L) ↦[SB]{fullShare} fb)
    ∗ ∃ g, ⌜Placed (F := F) sc od R r c ((base.access (.whole ⟨1, ![n]⟩)).read (Elt F) g)⌝
        ∗ ((base.access (.whole ⟨1, ![n]⟩)).loc (thr d L) ↦[(base.access (.whole ⟨1, ![n]⟩)).set]{fullShare} g))

/-- What a row's chunks rest on: ranks in range, the row's slots inside the buffer, the scratches' row `ρ` holding the
    row's scores and ranks. -/
structure RowOK (R r ρ : ℕ) : Prop where
  hod : InRange od
  hn : r * 256 + 256 ≤ n
  hn' : n ≤ 8192
  hρ : ρ < 32
  ha : RowIs fa ρ (sc (R + r))
  hb : RowIs fb ρ (od (R + r))
  hSA : ∀ x : S32x200.Idx, (x 0).val = ρ → x ∈ SA
  hSB : ∀ x : S32x200.Idx, (x 0).val = ρ → x ∈ SB

/-- One chunk: sixteen scores and ranks loaded from columns `col …` of scratch row `ρ`, scattered. -/
theorem wp_chunk {α : Type} {Q : α → sProp 𝕄} {R r ρ : ℕ} (h : RowOK d L (n := n) SA SB fa fb sc od R r ρ) (c col : ℕ)
    (hcol : col ≤ c) (hcol' : col + 16 ≤ 200)
    {offa offb : Fin 2 → ℕ} {inba : ∀ a, offa a + S1x16.size a ≤ S32x200.size a} {inbb : ∀ a, offb a + S1x16.size a ≤ S32x200.size a}
    {hla : (aV).view.LoadsAt (Rect.unit (s := S32x200) offa S1x16.size inba).toLoadRect}
    {hlb : (bV).view.LoadsAt (Rect.unit (s := S32x200) offb S1x16.size inbb).toLoadRect}
    {val : Vec F S1x16 .f32 → Vec F S16 .f32} {idx : Vec F S1x16 .i32 → IVec S16 32} {chk : IVec S16 32 → Prop} {dec : ∀ v, Decidable (chk v)}
    {hin : ∀ (_ : Vec F S1x16 .f32) (b : Vec F S1x16 .i32), PLift (chk (idx b)) → ∀ a x, ((![idx b] : Fin 1 → IVec S16 32) a x).toNat < (⟨1, ![n]⟩ : Shape).size a}
    {hst : (base.access (.whole ⟨1, ![n]⟩)).Stores Finset.univ}
    {k : Vec F S1x16 .f32 → (b : Vec F S1x16 .i32) → PLift (chk (idx b)) → PUnit → Prog (TpuEff nD τ sig (Elt F) Λ₀ (thr d L).2) α}
    (vb : BitVec 32) (hvb : vb.toNat = r * 256)
    (hoffa : offa = ![ρ, col]) (hoffb : offb = ![ρ, col])
    (hval : ∀ a, val a = shapeCast S16 a shapeCasts_S1x16_S16)
    (hidx : ∀ b, idx b = addi (subi (shapeCast S16 b shapeCasts_S1x16_S16) (broadcast S16 1#32)) (broadcast S16 vb))
    (hchk : ∀ v : IVec S16 32, (∀ a x, ((![v] : Fin 1 → IVec S16 32) a x).toNat < (⟨1, ![n]⟩ : Shape).size a) → chk v) :
    Row d L base SA SB fa fb sc od R r c
      ⊢ iprop((∀ a b h, Row d L base SA SB fa fb sc od R r (col + 16) -∗ wp frame (wpE (defs₀ (F := F)) 𝒱₀ (thr d L) none) Set.univ (k a b h ⟨⟩) Q)
        -∗ wp frame (wpE (defs₀ (F := F)) 𝒱₀ (thr d L) none) Set.univ
            (.op (.load aV (Rect.unit (s := S32x200) offa S1x16.size inba).toLoadRect hla) fun a =>
              .op (.load bV (Rect.unit (s := S32x200) offb S1x16.size inbb).toLoadRect hlb) fun b =>
                .op (.assume (chk (idx b)) (dec (idx b))) fun h =>
                  SparseCore.vectorStoreIdx base ![idx b] (val a) (fun _ => 1#1) false (hin a b h) hst >>= k a b h) Q) := by
  obtain ⟨hod, hn, hn', hρ, ha, hb, hSA, hSB⟩ := h
  have hsub : ∀ (off : Fin 2 → ℕ) (inb : ∀ a, off a + S1x16.size a ≤ S32x200.size a),
      off = ![ρ, col] → ∀ x ∈ (Rect.unit (s := S32x200) off S1x16.size inb).set, (x 0).val = ρ := by
    intro off inb hoff x hx
    subst hoff
    have h := Rect.mem_set_unit.mp hx 0
    have h1 : ρ ≤ (x 0).val ∧ (x 0).val < ρ + 1 := h
    omega
  have hA : ((aV).access (Rect.unit (s := S32x200) offa S1x16.size inba)).set ⊆ SA := by
    intro x hx
    exact hSA x (hsub offa inba hoffa x ((View.set_slice_whole (b := cc0_scratch0) (Rect.unit (s := S32x200) offa S1x16.size inba)) ▸ hx))
  have hB : ((bV).access (Rect.unit (s := S32x200) offb S1x16.size inbb)).set ⊆ SB := by
    intro x hx
    exact hSB x (hsub offb inbb hoffb x ((View.set_slice_whole (b := cc0_scratch1) (Rect.unit (s := S32x200) offb S1x16.size inbb)) ▸ hx))
  unfold Row
  iintro ⟨HA, HB, %g, %hg, HG⟩ Hk
  iapply (wp_load_rect (defs := defs₀ (F := F)) 𝒱₀ (thr d L) none Set.univ (m := aV) (r := Rect.unit (s := S32x200) offa S1x16.size inba) (hl := hla) hA) $$ HA
  iintro HA
  iapply (wp_load_rect (defs := defs₀ (F := F)) 𝒱₀ (thr d L) none Set.univ (m := bV) (r := Rect.unit (s := S32x200) offb S1x16.size inbb) (hl := hlb) hB) $$ HB
  iintro HB
  have hy : ∀ y : S16.Idx, (y 0).val < 16 := fun y => (y 0).isLt
  have hv : ∀ y, (idx (((bV).access (Rect.unit (s := S32x200) offb S1x16.size inbb)).read (Elt F) fb) y).toNat + 1
      = r * 256 + (od (R + r) (col + (y 0).val)).toNat := by
    intro y
    have := hy y
    rw [hidx]
    show (shapeCast S16 (((bV).access (Rect.unit (s := S32x200) offb S1x16.size inbb)).read (Elt F) fb) shapeCasts_S1x16_S16 y - 1#32 + vb).toNat + 1 = _
    rw [show shapeCast S16 (((bV).access (Rect.unit (s := S32x200) offb S1x16.size inbb)).read (Elt F) fb) shapeCasts_S1x16_S16 y
      = od (R + r) (col + (y 0).val) from
      (lanes_apply (F := F) offb ρ col hoffb inbb fb y hρ (by omega)).trans (hb hρ _)]
    exact slot_toNat _ _ _ hvb (by omega) (hod _ _)
  have hlt : ∀ a x, ((![idx (((bV).access (Rect.unit (s := S32x200) offb S1x16.size inbb)).read (Elt F) fb)] : Fin 1 → IVec S16 32) a x).toNat
      < (⟨1, ![n]⟩ : Shape).size a := by
    intro a x
    match a with
    | ⟨0, _⟩ =>
      have h1 := hv x
      have h2 := hod (R + r) (col + (x 0).val)
      show (idx _ x).toNat < n
      omega
  rw [wp_assume_of _ _ _ _ (hchk _ hlt)]
  iapply (SparseCore.wp_vectorStoreIdx 𝒱₀ (thr d L) none Set.univ (base := base)) $$ HG
  iintro HG
  iapply Hk $$ %_ %_ %_
  isplitl [HA]; · iexact HA
  isplitl [HB]; · iexact HB
  iexists _
  isplitr
  swap; · iexact HG
  ipureintro
  rw [View.read_write_univ]
  refine Placed.step hod hg col hcol hcol' _ _ _ hv ?_
  intro y
  have := hy y
  rw [hval]
  exact (lanes_apply (F := F) offa ρ col hoffa inba fa y hρ (by omega)).trans (ha hρ _)

end Chunk

end Cert.Proof.Sc
-- ==== Proof.Rows.lean ====
/-
  The two loops' bodies: one row of thirteen chunks each, by the chunk's rule.
-/
module

public import proofs.«01_k».proof.Proof.Chunk

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Placed
open Idealize.ShloMosaic.ValueKit (rect_emb_unit_val)

variable {F : FTy → Type}

local notation "𝕄" => MT nD τ sig (HIx 1) (Elt F) ℕ UU ℕ

variable [FloatOps F] (d : Dev nD) (L : grid0.Coords)
  (SA : Finset (Idx ((aV).view.loc (thr d L)))) (SB : Finset (Idx ((bV).view.loc (thr d L))))
  (fa : Buf (Elt F) ((aV).view.loc (thr d L))) (fb : Buf (Elt F) ((bV).view.loc (thr d L)))
  (sc : ℕ → ℕ → F .f32) (od : ℕ → ℕ → BitVec 32)

/-- A row done is the next one begun. -/
theorem Row.next {n : ℕ} (base : Memref sig .scVector .vmem ⟨1, ![n]⟩ .f32) (R r : ℕ) :
    (Row d L base SA SB fa fb sc od R r 200 : sProp 𝕄) ⊢ Row d L base SA SB fa fb sc od R (r + 1) 0 := by
  unfold Row
  iintro ⟨HA, HB, %g, %hg, HG⟩
  isplitl [HA]; · iexact HA
  isplitl [HB]; · iexact HB
  iexists g
  isplitr
  · ipureintro; exact hg.row
  · iexact HG

set_option maxHeartbeats 400000 in
/-- A trip of the first loop scatters row `t` of the first half. -/
theorem row1 (R : ℕ) (t : Fin k0_t1_loop.trips) (v1 : BitVec 32)
    (h : RowOK d L (n := 8192) SA SB fa fb sc od R t.val (t.val)) :
    Row d L rV SA SB fa fb sc od R t.val 0
      ⊢ wp frame (wpE (defs₀ (F := F)) 𝒱₀ (thr d L) none) Set.univ
          (k0_t1_body L xV (Memref.isWhole_whole _) yV (Memref.isWhole_whole _) oV (Memref.isWhole_whole _) aV (Memref.isWhole_whole _) bV (Memref.isWhole_whole _) rV (Memref.isWhole_whole _) cc0_scratch3 cc0_scratch4 cc0_scratch5 cc0_scoped0 v1 t ())
          fun _ => Row d L rV SA SB fa fb sc od R (t.val + 1) 0 := by
  have hvb : (Scalar.muli (Scf.iv (0#32) (1#32) t) 256#32).toNat = t.val * 256 := by
    clear h; revert t; decide +kernel
  simp only [k0_t1_body, k0_part1_eq_skeleton, k0_part2_eq_skeleton, k0_part3_eq_skeleton]
  unfold k0_part1_skel k0_part2_skel k0_part3_skel
  simp only [Prog.lift, Prog.bind_op, Prog.bind_ret, Prog.pure_eq_ret, Prog.bind_assoc]
  iintro H
  iapply (wp_chunk d L rV _ _ _ _ _ _ h 0 0 (by decide) (by decide) _ hvb (k0_off3_eq t) (k0_off3_eq t) (fun _ => rfl) (fun _ => rfl) (fun _ h => h)) $$ H
  iintro %_ %_ %_ H
  iapply (wp_chunk d L rV _ _ _ _ _ _ h 16 16 (by decide) (by decide) _ hvb (k0_off4_eq t) (k0_off4_eq t) (fun _ => rfl) (fun _ => rfl) (fun _ h => h)) $$ H
  iintro %_ %_ %_ H
  iapply (wp_chunk d L rV _ _ _ _ _ _ h 32 32 (by decide) (by decide) _ hvb (k0_off5_eq t) (k0_off5_eq t) (fun _ => rfl) (fun _ => rfl) (fun _ h => h)) $$ H
  iintro %_ %_ %_ H
  iapply (wp_chunk d L rV _ _ _ _ _ _ h 48 48 (by decide) (by decide) _ hvb (k0_off6_eq t) (k0_off6_eq t) (fun _ => rfl) (fun _ => rfl) (fun _ h => h)) $$ H
  iintro %_ %_ %_ H
  iapply (wp_chunk d L rV _ _ _ _ _ _ h 64 64 (by decide) (by decide) _ hvb (k0_off7_eq t) (k0_off7_eq t) (fun _ => rfl) (fun _ => rfl) (fun _ h => h)) $$ H
  iintro %_ %_ %_ H
  iapply (wp_chunk d L rV _ _ _ _ _ _ h 80 80 (by decide) (by decide) _ hvb (k0_off8_eq t) (k0_off8_eq t) (fun _ => rfl) (fun _ => rfl) (fun _ h => h)) $$ H
  iintro %_ %_ %_ H
  iapply (wp_chunk d L rV _ _ _ _ _ _ h 96 96 (by decide) (by decide) _ hvb (k0_off9_eq t) (k0_off9_eq t) (fun _ => rfl) (fun _ => rfl) (fun _ h => h)) $$ H
  iintro %_ %_ %_ H
  iapply (wp_chunk d L rV _ _ _ _ _ _ h 112 112 (by decide) (by decide) _ hvb (k0_off10_eq t) (k0_off10_eq t) (fun _ => rfl) (fun _ => rfl) (fun _ h => h)) $$ H
  iintro %_ %_ %_ H
  iapply (wp_chunk d L rV _ _ _ _ _ _ h 128 128 (by decide) (by decide) _ hvb (k0_off11_eq t) (k0_off11_eq t) (fun _ => rfl) (fun _ => rfl) (fun _ h => h)) $$ H
  iintro %_ %_ %_ H
  iapply (wp_chunk d L rV _ _ _ _ _ _ h 144 144 (by decide) (by decide) _ hvb (k0_off12_eq t) (k0_off12_eq t) (fun _ => rfl) (fun _ => rfl) (fun _ h => h)) $$ H
  iintro %_ %_ %_ H
  iapply (wp_chunk d L rV _ _ _ _ _ _ h 160 160 (by decide) (by decide) _ hvb (k0_off13_eq t) (k0_off13_eq t) (fun _ => rfl) (fun _ => rfl) (fun _ h => h)) $$ H
  iintro %_ %_ %_ H
  iapply (wp_chunk d L rV _ _ _ _ _ _ h 176 176 (by decide) (by decide) _ hvb (k0_off14_eq t) (k0_off14_eq t) (fun _ => rfl) (fun _ => rfl) (fun _ h => h)) $$ H
  iintro %_ %_ %_ H
  iapply (wp_chunk d L rV _ _ _ _ _ _ h 192 184 (by decide) (by decide) _ hvb (k0_off15_eq t) (k0_off15_eq t) (fun _ => rfl) (fun _ => rfl) (fun _ h => h)) $$ H
  iintro %_ %_ %_ H
  sl_step
  iapply (Row.next d L _ _ _ _ _ _ _ _ _) $$ H

set_option maxHeartbeats 400000 in
/-- A trip of the second loop scatters row `t` of the second half. -/
theorem row2 (R : ℕ) (t : Fin k0_t2_loop.trips)
    (h : RowOK d L (n := 4096) SA SB fa fb sc od R t.val (t.val + 16)) :
    Row d L r2V SA SB fa fb sc od R t.val 0
      ⊢ wp frame (wpE (defs₀ (F := F)) 𝒱₀ (thr d L) none) Set.univ
          (k0_t2_body L xV (Memref.isWhole_whole _) yV (Memref.isWhole_whole _) oV (Memref.isWhole_whole _) aV (Memref.isWhole_whole _) bV (Memref.isWhole_whole _) rV (Memref.isWhole_whole _) cc0_scratch3 cc0_scratch4 cc0_scratch5 cc0_scoped0 16#32 1#32 t ())
          fun _ => Row d L r2V SA SB fa fb sc od R (t.val + 1) 0 := by
  have hvb : (Scalar.muli (Scalar.subi (Scf.iv (16#32) (1#32) t) 16#32) 256#32).toNat = t.val * 256 := by
    clear h; revert t; decide +kernel
  simp only [k0_t2_body, k0_part4_eq_skeleton, k0_part5_eq_skeleton, k0_part6_eq_skeleton]
  unfold k0_part4_skel k0_part5_skel k0_part6_skel
  simp only [Prog.lift, Prog.bind_op, Prog.bind_ret, Prog.pure_eq_ret, Prog.bind_assoc]
  iintro H
  iapply (wp_chunk d L r2V _ _ _ _ _ _ h 0 0 (by decide) (by decide) _ hvb (k0_off17_eq t) (k0_off17_eq t) (fun _ => rfl) (fun _ => rfl) (fun _ h => h)) $$ H
  iintro %_ %_ %_ H
  iapply (wp_chunk d L r2V _ _ _ _ _ _ h 16 16 (by decide) (by decide) _ hvb (k0_off18_eq t) (k0_off18_eq t) (fun _ => rfl) (fun _ => rfl) (fun _ h => h)) $$ H
  iintro %_ %_ %_ H
  iapply (wp_chunk d L r2V _ _ _ _ _ _ h 32 32 (by decide) (by decide) _ hvb (k0_off19_eq t) (k0_off19_eq t) (fun _ => rfl) (fun _ => rfl) (fun _ h => h)) $$ H
  iintro %_ %_ %_ H
  iapply (wp_chunk d L r2V _ _ _ _ _ _ h 48 48 (by decide) (by decide) _ hvb (k0_off20_eq t) (k0_off20_eq t) (fun _ => rfl) (fun _ => rfl) (fun _ h => h)) $$ H
  iintro %_ %_ %_ H
  iapply (wp_chunk d L r2V _ _ _ _ _ _ h 64 64 (by decide) (by decide) _ hvb (k0_off21_eq t) (k0_off21_eq t) (fun _ => rfl) (fun _ => rfl) (fun _ h => h)) $$ H
  iintro %_ %_ %_ H
  iapply (wp_chunk d L r2V _ _ _ _ _ _ h 80 80 (by decide) (by decide) _ hvb (k0_off22_eq t) (k0_off22_eq t) (fun _ => rfl) (fun _ => rfl) (fun _ h => h)) $$ H
  iintro %_ %_ %_ H
  iapply (wp_chunk d L r2V _ _ _ _ _ _ h 96 96 (by decide) (by decide) _ hvb (k0_off23_eq t) (k0_off23_eq t) (fun _ => rfl) (fun _ => rfl) (fun _ h => h)) $$ H
  iintro %_ %_ %_ H
  iapply (wp_chunk d L r2V _ _ _ _ _ _ h 112 112 (by decide) (by decide) _ hvb (k0_off24_eq t) (k0_off24_eq t) (fun _ => rfl) (fun _ => rfl) (fun _ h => h)) $$ H
  iintro %_ %_ %_ H
  iapply (wp_chunk d L r2V _ _ _ _ _ _ h 128 128 (by decide) (by decide) _ hvb (k0_off25_eq t) (k0_off25_eq t) (fun _ => rfl) (fun _ => rfl) (fun _ h => h)) $$ H
  iintro %_ %_ %_ H
  iapply (wp_chunk d L r2V _ _ _ _ _ _ h 144 144 (by decide) (by decide) _ hvb (k0_off26_eq t) (k0_off26_eq t) (fun _ => rfl) (fun _ => rfl) (fun _ h => h)) $$ H
  iintro %_ %_ %_ H
  iapply (wp_chunk d L r2V _ _ _ _ _ _ h 160 160 (by decide) (by decide) _ hvb (k0_off27_eq t) (k0_off27_eq t) (fun _ => rfl) (fun _ => rfl) (fun _ h => h)) $$ H
  iintro %_ %_ %_ H
  iapply (wp_chunk d L r2V _ _ _ _ _ _ h 176 176 (by decide) (by decide) _ hvb (k0_off28_eq t) (k0_off28_eq t) (fun _ => rfl) (fun _ => rfl) (fun _ h => h)) $$ H
  iintro %_ %_ %_ H
  iapply (wp_chunk d L r2V _ _ _ _ _ _ h 192 184 (by decide) (by decide) _ hvb (k0_off29_eq t) (k0_off29_eq t) (fun _ => rfl) (fun _ => rfl) (fun _ h => h)) $$ H
  iintro %_ %_ %_ H
  sl_step
  iapply (Row.next d L _ _ _ _ _ _ _ _ _) $$ H

end Cert.Proof.Sc
-- ==== Proof.Tile.lean ====
/-
  The task of one vector subcore: two halves of its rows copied in, each scattered into place as it arrives, each half
  copied out. What it leaves in the result: every score in the slot its rank names.
-/
module

public import proofs.«01_k».proof.Proof.Rows
public import Idealize.ShloMosaic.Lib.Batch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Placed
open Idealize.ShloMosaic.ValueKit (rect_emb_unit_val)

variable {F : FTy → Type}

local notation "𝕄" => MT nD τ sig (HIx 1) (Elt F) ℕ UU ℕ

/-! ## The pieces of memory a task works on -/

section Pieces

variable (d : Dev nD) (L : grid0.Coords)

/-- The four DMA cells the task's copies signal. -/
abbrev cell1 (d : Dev nD) (c : Fin τ.nSC) (i : Fin τ.nSub) : GSem nD τ sig := (V d c i, .dma cc0_scratch3.sem)
abbrev cell2 (d : Dev nD) (c : Fin τ.nSC) (i : Fin τ.nSub) : GSem nD τ sig := (V d c i, .dma cc0_scratch4.sem)
abbrev cell3 (d : Dev nD) (c : Fin τ.nSC) (i : Fin τ.nSub) : GSem nD τ sig := (V d c i, .dma cc0_scratch5.sem)
abbrev cell4 (d : Dev nD) (c : Fin τ.nSC) (i : Fin τ.nSub) : GSem nD τ sig := (V d c i, .dma cc0_scoped0.sem)

theorem ownSems0_V :
    (ownSems0 (V d (cV L) (jV L)) : sProp 𝕄)
      = iprop(semVal (cell1 d (cV L) (jV L)) 0 ∗ semVal (cell2 d (cV L) (jV L)) 0 ∗ semVal (cell3 d (cV L) (jV L)) 0 ∗ semVal (cell4 d (cV L) (jV L)) 0
          ∗ bigSep (((((ownCells (V d (cV L) (jV L))).erase (cell1 d (cV L) (jV L))).erase (cell2 d (cV L) (jV L))).erase (cell3 d (cV L) (jV L))).erase
              (cell4 d (cV L) (jV L))) fun g => semVal g 0) := by
  unfold SparseCore.Cfg.ownSems0
  rw [SparseCore.bigSep_erase' ((mem_ownCells (g := cell1 d (cV L) (jV L))).mpr ⟨rfl, by
      show (SemLoc.dma cc0_scratch3.sem : SemLoc sig).isScoped .scVector = true; decide⟩),
    SparseCore.bigSep_erase' (Finset.mem_erase.mpr ⟨by simp [cell1, cell2]; decide, (mem_ownCells (g := cell2 d (cV L) (jV L))).mpr ⟨rfl, by
      show (SemLoc.dma cc0_scratch4.sem : SemLoc sig).isScoped .scVector = true; decide⟩⟩),
    SparseCore.bigSep_erase' (Finset.mem_erase.mpr ⟨by simp [cell2, cell3]; decide, Finset.mem_erase.mpr ⟨by simp [cell1, cell3]; decide,
      (mem_ownCells (g := cell3 d (cV L) (jV L))).mpr ⟨rfl, by show (SemLoc.dma cc0_scratch5.sem : SemLoc sig).isScoped .scVector = true; decide⟩⟩⟩),
    SparseCore.bigSep_erase' (Finset.mem_erase.mpr ⟨by simp [cell3, cell4]; decide, Finset.mem_erase.mpr ⟨by simp [cell2, cell4]; decide,
      Finset.mem_erase.mpr ⟨by simp [cell1, cell4]; decide, (mem_ownCells (g := cell4 d (cV L) (jV L))).mpr ⟨rfl, by
        show (SemLoc.dma cc0_scoped0.sem : SemLoc sig).isScoped .scVector = true; decide⟩⟩⟩⟩)]

/-- The subcore's own buffers are its three scratches, each at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- Sixteen rows of a scratch of 32 rows; half the slots of a scratch of 8192. -/
theorem mem_rows (o : ℕ) (off : Fin 2 → ℕ) (hoff : off = ![o, 0]) (inb : ∀ a, off a + S16x200.size a ≤ S32x200.size a) (i : S32x200.Idx) :
    i ∈ (Rect.unit (s := S32x200) off S16x200.size inb).set ↔ o ≤ (i 0).val ∧ (i 0).val < o + 16 := by
  subst hoff
  refine Rect.mem_set_unit.trans ⟨fun h => h 0, fun h a => ?_⟩
  match a with
  | ⟨0, _⟩ => exact h
  | ⟨1, _⟩ => exact ⟨Nat.zero_le _, by show (i 1).val < 0 + 200; have : (i 1).val < 200 := (i 1).isLt; omega⟩
theorem mem_slots (o : ℕ) (off : Fin 1 → ℕ) (hoff : off = ![o]) (inb : ∀ a, off a + S4096.size a ≤ S8192.size a) (i : S8192.Idx) :
    i ∈ (Rect.unit (s := S8192) off S4096.size inb).set ↔ o ≤ (i 0).val ∧ (i 0).val < o + 4096 := by
  subst hoff
  refine Rect.mem_set_unit.trans ⟨fun h => h 0, fun h a => ?_⟩
  match a with
  | ⟨0, _⟩ => exact h

theorem mem_a1 (i : S32x200.Idx) : i ∈ (a1V).view.set ↔ (i 0).val < 16 := by
  rw [View.set_slice_whole]; exact (mem_rows 0 _ rfl _ i).trans ⟨fun h => by omega, fun h => by omega⟩
theorem mem_a2 (i : S32x200.Idx) : i ∈ (a2V).view.set ↔ 16 ≤ (i 0).val := by
  rw [View.set_slice_whole]; exact (mem_rows 16 _ rfl _ i).trans ⟨fun h => h.1, fun h => ⟨h, (i 0).isLt⟩⟩
theorem mem_b1 (i : S32x200.Idx) : i ∈ (b1V).view.set ↔ (i 0).val < 16 := by
  rw [View.set_slice_whole]; exact (mem_rows 0 _ rfl _ i).trans ⟨fun h => by omega, fun h => by omega⟩
theorem mem_b2 (i : S32x200.Idx) : i ∈ (b2V).view.set ↔ 16 ≤ (i 0).val := by
  rw [View.set_slice_whole]; exact (mem_rows 16 _ rfl _ i).trans ⟨fun h => h.1, fun h => ⟨h, (i 0).isLt⟩⟩
theorem mem_r1 (i : S8192.Idx) : i ∈ (r1V).view.set ↔ (i 0).val < 4096 := by
  rw [View.set_slice_whole]; exact (mem_slots 0 _ rfl _ i).trans ⟨fun h => by omega, fun h => by omega⟩
theorem mem_r2 (i : S8192.Idx) : i ∈ (r2V).view.set ↔ 4096 ≤ (i 0).val := by
  rw [View.set_slice_whole]; exact (mem_slots 4096 _ rfl _ i).trans ⟨fun h => h.1, fun h => ⟨h, (i 0).isLt⟩⟩

/-- Two sets told apart by a number below or not below a bound make up everything. -/
theorem split_of {α : Type} [Fintype α] [DecidableEq α] (A B : Finset α) (g : α → ℕ) (n : ℕ) (hA : ∀ i, i ∈ A ↔ g i < n) (hB : ∀ i, i ∈ B ↔ n ≤ g i) :
    Disjoint A B ∧ A ∪ B = Finset.univ := by
  constructor
  · rw [Finset.disjoint_left]; intro i hi hj
    have := (hA i).mp hi; have := (hB i).mp hj; omega
  · ext i; simp only [Finset.mem_union, Finset.mem_univ, iff_true]
    rcases Nat.lt_or_ge (g i) n with h | h
    · exact .inl ((hA i).mpr h)
    · exact .inr ((hB i).mpr h)
theorem split_a : Disjoint (a1V).view.set (a2V).view.set ∧ (a1V).view.set ∪ (a2V).view.set = Finset.univ := split_of _ _ (fun i : S32x200.Idx => (i 0).val) 16 mem_a1 mem_a2
theorem split_b : Disjoint (b1V).view.set (b2V).view.set ∧ (b1V).view.set ∪ (b2V).view.set = Finset.univ := split_of _ _ (fun i : S32x200.Idx => (i 0).val) 16 mem_b1 mem_b2
theorem split_r : Disjoint (r1V).view.set (r2V).view.set ∧ (r1V).view.set ∪ (r2V).view.set = Finset.univ := split_of _ _ (fun i : S8192.Idx => (i 0).val) 4096 mem_r1 mem_r2

/-- A location held on two sets that make it up is held whole. -/
theorem split_univ {ℓ : Loc nD τ sig} {A B : Finset (Idx ℓ)} (h : Disjoint A B ∧ A ∪ B = Finset.univ) (f : Buf (Elt F) ℓ) :
    (ℓ ↦{fullShare} f : sProp 𝕄) ⊢ iprop((ℓ ↦[A]{fullShare} f) ∗ (ℓ ↦[B]{fullShare} f)) := by
  refine (Entails.of_eq ?_).trans (pointsTo_union h.1).1
  rw [h.2]
theorem join_univ {ℓ : Loc nD τ sig} {A B : Finset (Idx ℓ)} (h : Disjoint A B ∧ A ∪ B = Finset.univ) (f g : Buf (Elt F) ℓ) :
    iprop((ℓ ↦[A]{fullShare} f) ∗ (ℓ ↦[B]{fullShare} g)) ⊢ (iprop(∃ f', ℓ ↦{fullShare} f') : sProp 𝕄) := by
  refine (pointsTo_join h.1).trans ?_
  rw [h.2]
  iintro H; iexists _; iexact H

/-- The buffer a loop scatters into, as the whole of its memref, covers the memref's own elements. -/
theorem access_set {n : ℕ} (base : Memref sig .scVector .vmem ⟨1, ![n]⟩ .f32) :
    (base.access (.whole ⟨1, ![n]⟩)).set = base.view.set := by
  rw [View.set_slice, Rect.set_whole]; rfl
theorem access_read {n : ℕ} (base : Memref sig .scVector .vmem ⟨1, ![n]⟩ .f32) (g : base.view.ty.Contents (Elt F)) :
    (base.access (.whole ⟨1, ![n]⟩)).read (Elt F) g = base.view.read (Elt F) g := by
  funext y
  show base.view.read (Elt F) g ((Rect.whole _).emb y) = _
  rw [Rect.emb_whole_apply]

end Pieces

/-! ## What the task leaves -/

/-- The scores, and the ranks, of row `b` as functions of the column. -/
def scN (x : Vec F S1024x200 .f32) (b k : ℕ) : F .f32 := x (ValueIdx.ix2 (Fin.ofNat 1024 b) (Fin.ofNat 200 k))
def odN (y : IVec S1024x200 32) (b k : ℕ) : BitVec 32 := y (ValueIdx.ix2 (Fin.ofNat 1024 b) (Fin.ofNat 200 k))

/-- Sixteen rows from row `R` of the result: the score of a column whose rank is its own stands at slot
    `256 * row + rank - 1`. -/
def Half (x : Vec F S1024x200 .f32) (y : IVec S1024x200 32) (R : ℕ) (g : Vec F S262144 .f32) : Prop :=
  ∀ r k, r < 16 → k < 200 → Uniq (odN y) (R + r) k →
    ∀ z : S262144.Idx, (z 0).val + 1 = (R + r) * 256 + (odN y (R + r) k).toNat → g z = scN x (R + r) k

/-- Row `ρ` of a scratch whose half at row `o` holds sixteen rows from row `R` of an array. -/
theorem rowIs_of {α : Type} (x : S1024x200.Idx → α) (R o : ℕ) (offx offa : Fin 2 → ℕ) (hx : offx = ![R, 0]) (ha : offa = ![o, 0])
    (inbx : ∀ a, offx a + S16x200.size a ≤ S1024x200.size a) (inba : ∀ a, offa a + S16x200.size a ≤ S32x200.size a)
    (f : S32x200.Idx → α)
    (hf : ∀ j : S16x200.Idx, f ((Rect.unit (s := S32x200) offa S16x200.size inba).emb j) = x ((Rect.unit (s := S1024x200) offx S16x200.size inbx).emb j))
    (t : ℕ) (ht : t < 16) : RowIs f (t + o) (fun k => x (ValueIdx.ix2 (Fin.ofNat 1024 (R + t)) (Fin.ofNat 200 k))) := by
  intro hρ k
  subst hx; subst ha
  have hR : R + 16 ≤ 1024 := inbx 0
  refine (congrArg f ?_).trans ((hf (ValueIdx.ix2 ⟨t, ht⟩ k)).trans (congrArg x ?_))
  · refine Shape.idx_ext₂ ?_ ?_
    · rw [rect_emb_unit_val]; exact Nat.add_comm t o
    · rw [rect_emb_unit_val]; exact (Nat.zero_add _).symm
  · refine Shape.idx_ext₂ ?_ ?_
    · rw [rect_emb_unit_val]; exact (Nat.mod_eq_of_lt (by omega : R + t < 1024)).symm
    · rw [rect_emb_unit_val]; exact (Nat.zero_add _).trans (Nat.mod_eq_of_lt k.isLt).symm

/-- A half of the result holds its sixteen rows when the scratch it was copied from does. -/
theorem half_of_placed (x : Vec F S1024x200 .f32) (y : IVec S1024x200 32) (hrange : InRange (odN y)) (R : ℕ) (off : Fin 1 → ℕ) (hoff : off = ![R * 256])
    (inb : ∀ a, off a + S4096.size a ≤ S262144.size a) (w : Vec F S4096 .f32) (hw : Placed (scN x) (odN y) R 16 0 w) (g : Vec F S262144 .f32)
    (hg : ∀ j : S4096.Idx, g ((Rect.unit (s := S262144) off S4096.size inb).emb j) = w j) :
    Half x y R g := by
  intro r k hr hk hu z hz
  have ho := hrange (R + r) k
  subst hoff
  have hlt : (z 0).val - R * 256 < 4096 := by omega
  have hz0 : z = (Rect.unit (s := S262144) ![R * 256] S4096.size inb).emb (ValueIdx.ix1 (n := 4096) ⟨(z 0).val - R * 256, hlt⟩) := by
    funext a; match a with
    | ⟨0, _⟩ => refine Fin.ext ?_; rw [rect_emb_unit_val]; show (z 0).val = R * 256 + ((z 0).val - R * 256); omega
  rw [hz0, hg]
  refine hw r k (.inl hr) hk hu _ ?_
  show (z 0).val - R * 256 + 1 = _
  omega

/-- The lower half of the scatter's buffer holds what the whole of it does. -/
theorem placed_low (sc : ℕ → ℕ → F .f32) (od : ℕ → ℕ → BitVec 32) (R : ℕ) (g : Vec F S8192 .f32)
    (h : Placed sc od R 16 0 ((rV.access (.whole S8192)).read (Elt F) g)) : Placed sc od R 16 0 ((r1V).view.read (Elt F) g) := by
  intro r k hr hk hu x hx
  have := h r k hr hk hu (ValueIdx.ix1 (n := 8192) ⟨(x 0).val, by have : (x 0).val < 4096 := (x 0).isLt; omega⟩) hx
  rw [access_read] at this
  refine (congrArg g ?_).trans this
  funext a; match a with
  | ⟨0, _⟩ => exact Fin.ext ((rect_emb_unit_val _ _ _ _ _).trans (Nat.zero_add _))

variable (m : (ℓ : Loc nD τ sig) → Buf (Elt F) ℓ)

variable [FloatOps F]

section Tile

variable (d : Dev nD) (L : grid0.Coords)

/-- What a task is handed, -/
abbrev goP : sProp 𝕄 :=
  iprop(((x1V L).view.loc (thr d L) ↦[(x1V L).view.set]{fullShare} m (xLoc d)) ∗ ((x2V L).view.loc (thr d L) ↦[(x2V L).view.set]{fullShare} m (xLoc d))
    ∗ ((y1V L).view.loc (thr d L) ↦[(y1V L).view.set]{fullShare} m (yLoc d)) ∗ ((y2V L).view.loc (thr d L) ↦[(y2V L).view.set]{fullShare} m (yLoc d))
    ∗ ((o1V L).view.loc (thr d L) ↦[(o1V L).view.set]{fullShare} m (oLoc d)) ∗ ((o2V L).view.loc (thr d L) ↦[(o2V L).view.set]{fullShare} m (oLoc d)))
/-- and what it hands back. -/
abbrev tdP : sProp 𝕄 :=
  iprop(((x1V L).view.loc (thr d L) ↦[(x1V L).view.set]{fullShare} m (xLoc d)) ∗ ((x2V L).view.loc (thr d L) ↦[(x2V L).view.set]{fullShare} m (xLoc d))
    ∗ ((y1V L).view.loc (thr d L) ↦[(y1V L).view.set]{fullShare} m (yLoc d)) ∗ ((y2V L).view.loc (thr d L) ↦[(y2V L).view.set]{fullShare} m (yLoc d))
    ∗ (∃ g, ⌜Half (m (xLoc d)) (m (yLoc d)) (row0 L) g⌝ ∗ ((o1V L).view.loc (thr d L) ↦[(o1V L).view.set]{fullShare} g))
    ∗ (∃ g, ⌜Half (m (xLoc d)) (m (yLoc d)) (row0 L + 16) g⌝ ∗ ((o2V L).view.loc (thr d L) ↦[(o2V L).view.set]{fullShare} g)))

theorem half1 (hrange : InRange (odN (m (yLoc d)))) (w : Vec F S4096 .f32) (hw : Placed (scN (m (xLoc d))) (odN (m (yLoc d))) (row0 L) 16 0 w)
    (f : (o1V L).view.ty.Contents (Elt F)) :
    Half (m (xLoc d)) (m (yLoc d)) (row0 L) ((o1V L).view.writes (Elt F) f [⟨Rect.whole S4096, w⟩]) := by
  have hoff : k0_off16 L = ![(row0 L) * 256] := by
    rw [k0_off16_eq]; refine congrArg (fun n : ℕ => ![n]) ?_
    show _ = (64 * (L 1).val + 32 * (L 0).val) * 256; omega
  refine half_of_placed (m (xLoc d)) (m (yLoc d)) hrange (row0 L) (k0_off16 L) hoff (k0_off16_inb L) w hw ((o1V L).view.writes (Elt F) f [⟨Rect.whole S4096, w⟩]) (fun j => ?_)
  have hread : ∀ g : (o1V L).view.ty.Contents (Elt F), g ((Rect.unit (s := S262144) (k0_off16 L) S4096.size (k0_off16_inb L)).emb j) = (o1V L).view.read (Elt F) g j :=
    fun _ => rfl
  exact (hread _).trans (congrFun (View.read_writes_whole (o1V L).view f w) j)

theorem half2 (hrange : InRange (odN (m (yLoc d)))) (w : Vec F S4096 .f32) (hw : Placed (scN (m (xLoc d))) (odN (m (yLoc d))) (row0 L + 16) 16 0 w)
    (f : (o2V L).view.ty.Contents (Elt F)) :
    Half (m (xLoc d)) (m (yLoc d)) (row0 L + 16) ((o2V L).view.writes (Elt F) f [⟨Rect.whole S4096, w⟩]) := by
  have hoff : k0_off30 L = ![(row0 L + 16) * 256] := by
    rw [k0_off30_eq]; refine congrArg (fun n : ℕ => ![n]) ?_
    show _ = (64 * (L 1).val + 32 * (L 0).val + 16) * 256; omega
  refine half_of_placed (m (xLoc d)) (m (yLoc d)) hrange (row0 L + 16) (k0_off30 L) hoff (k0_off30_inb L) w hw ((o2V L).view.writes (Elt F) f [⟨Rect.whole S4096, w⟩]) (fun j => ?_)
  have hread : ∀ g : (o2V L).view.ty.Contents (Elt F), g ((Rect.unit (s := S262144) (k0_off30 L) S4096.size (k0_off30_inb L)).emb j) = (o2V L).view.read (Elt F) g j :=
    fun _ => rfl
  exact (hread _).trans (congrFun (View.read_writes_whole (o2V L).view f w) j)

/-- The two halves of a scratch as they land. -/
abbrev la1 := (a1V).view.writes (Elt F) (a1V).view.junk [⟨Rect.whole S16x200, (x1V L).view.read (Elt F) (m (xLoc d))⟩]
abbrev la2 (f : (a2V).view.ty.Contents (Elt F)) := (a2V).view.writes (Elt F) f [⟨Rect.whole S16x200, (x2V L).view.read (Elt F) (m (xLoc d))⟩]
abbrev lb1 := (b1V).view.writes (Elt F) (b1V).view.junk [⟨Rect.whole S16x200, (y1V L).view.read (Elt F) (m (yLoc d))⟩]
abbrev lb2 (f : (b2V).view.ty.Contents (Elt F)) := (b2V).view.writes (Elt F) f [⟨Rect.whole S16x200, (y2V L).view.read (Elt F) (m (yLoc d))⟩]

theorem la1_rowIs (t : ℕ) (ht : t < 16) : RowIs (la1 m d L) t (scN (m (xLoc d)) (row0 L + t)) := by
  refine rowIs_of (m (xLoc d)) (row0 L) 0 _ _ (k0_off1_eq L) rfl (k0_off1_inb L) inb_S32x200_S16x200_0_0 (la1 m d L) (fun j => ?_) t ht
  exact congrFun (View.read_writes_whole (a1V).view (a1V).view.junk ((x1V L).view.read (Elt F) (m (xLoc d)))) j

theorem la2_rowIs (f : (a2V).view.ty.Contents (Elt F)) (t : ℕ) (ht : t < 16) : RowIs (la2 m d L f) (t + 16) (scN (m (xLoc d)) (row0 L + 16 + t)) := by
  refine rowIs_of (m (xLoc d)) (row0 L + 16) 16 _ _ (k0_off2_eq L) rfl (k0_off2_inb L) inb_S32x200_S16x200_16_0 (la2 m d L f) (fun j => ?_) t ht
  exact congrFun (View.read_writes_whole (a2V).view f ((x2V L).view.read (Elt F) (m (xLoc d)))) j

theorem lb1_rowIs (t : ℕ) (ht : t < 16) : RowIs (lb1 m d L) t (odN (m (yLoc d)) (row0 L + t)) := by
  refine rowIs_of (m (yLoc d)) (row0 L) 0 _ _ (k0_off1_eq L) rfl (k0_off1_inb L) inb_S32x200_S16x200_0_0 (lb1 m d L) (fun j => ?_) t ht
  exact congrFun (View.read_writes_whole (b1V).view (b1V).view.junk ((y1V L).view.read (Elt F) (m (yLoc d)))) j

theorem lb2_rowIs (f : (b2V).view.ty.Contents (Elt F)) (t : ℕ) (ht : t < 16) : RowIs (lb2 m d L f) (t + 16) (odN (m (yLoc d)) (row0 L + 16 + t)) := by
  refine rowIs_of (m (yLoc d)) (row0 L + 16) 16 _ _ (k0_off2_eq L) rfl (k0_off2_inb L) inb_S32x200_S16x200_16_0 (lb2 m d L f) (fun j => ?_) t ht
  exact congrFun (View.read_writes_whole (b2V).view f ((y2V L).view.read (Elt F) (m (yLoc d)))) j

theorem ok1 (hrange : InRange (odN (m (yLoc d)))) (t : ℕ) (ht : t < 16) :
    RowOK d L (n := 8192) (a1V).view.set (b1V).view.set (la1 m d L) (lb1 m d L) (scN (m (xLoc d))) (odN (m (yLoc d))) (row0 L) t t where
  hod := hrange
  hn := by omega
  hn' := by omega
  hρ := by omega
  ha := la1_rowIs m d L t ht
  hb := lb1_rowIs m d L t ht
  hSA := fun x hx => (mem_a1 x).mpr (by omega)
  hSB := fun x hx => (mem_b1 x).mpr (by omega)

theorem ok2 (hrange : InRange (odN (m (yLoc d)))) (fa : (a2V).view.ty.Contents (Elt F)) (fb : (b2V).view.ty.Contents (Elt F)) (t : ℕ) (ht : t < 16) :
    RowOK d L (n := 4096) (a2V).view.set (b2V).view.set (la2 m d L fa) (lb2 m d L fb) (scN (m (xLoc d))) (odN (m (yLoc d))) (row0 L + 16) t (t + 16) where
  hod := hrange
  hn := by omega
  hn' := by omega
  hρ := by omega
  ha := la2_rowIs m d L fa t ht
  hb := lb2_rowIs m d L fb t ht
  hSA := fun x hx => (mem_a2 x).mpr (by omega)
  hSB := fun x hx => (mem_b2 x).mpr (by omega)

set_option maxHeartbeats 600000 in
theorem tile_body (hrange : InRange (odN (m (yLoc d)))) (hF : (K (F := F)).Facts) (O : CellTallies nD τ sig (HIx 1)) (W : Waits sig (HIx 1))
    (hO : ∀ g, O g none = 0) :
    iprop(levAts (K (F := F)).L (K (F := F)).lev ∗ emp ∗ goP m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_scatter L xV (Memref.isWhole_whole _) yV (Memref.isWhole_whole _) oV (Memref.isWhole_whole _) aV (Memref.isWhole_whole _) bV (Memref.isWhole_whole _) rV (Memref.isWhole_whole _) cc0_scratch3 cc0_scratch4 cc0_scratch5 cc0_scoped0)
          fun _ => iprop(tdP m d L
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  -- two copies are outstanding at once on each of the first two cells
  have plan1 : Transfers.BatchOf (thr d L) (SemLoc.dma (sig := sig) cc0_scratch3.sem) 2 := trivial
  have plan2 : Transfers.BatchOf (thr d L) (SemLoc.dma (sig := sig) cc0_scratch4.sem) 2 := trivial
  iintro ⟨#Hlv, -, ⟨Hx1, Hx2, Hy1, Hy2, Ho1, Ho2⟩, ⟨⟨%fa, Ha⟩, ⟨%fb, Hb⟩, ⟨%fr, Hr⟩, Hbufs⟩, ⟨Hc1, Hc2, Hc3, Hc4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ha' := (show ((V d (cV L) (jV L)).loc cc0_scratch0 ↦{fullShare} fa : sProp 𝕄) ⊢ iprop(((a1V).view.loc (thr d L) ↦[(a1V).view.set]{fullShare} fa) ∗ ((a2V).view.loc (thr d L) ↦[(a2V).view.set]{fullShare} fa)) from
    split_univ split_a fa) $$ Ha
  ihave Hb' := (show ((V d (cV L) (jV L)).loc cc0_scratch1 ↦{fullShare} fb : sProp 𝕄) ⊢ iprop(((b1V).view.loc (thr d L) ↦[(b1V).view.set]{fullShare} fb) ∗ ((b2V).view.loc (thr d L) ↦[(b2V).view.set]{fullShare} fb)) from
    split_univ split_b fb) $$ Hb
  icases Ha' with ⟨Ha1, Ha2⟩
  icases Hb' with ⟨Hb1, Hb2⟩
  rw [cc0_sc_scatter_eq_skeleton]
  unfold cc0_sc_scatter_skel
  rw [k0_part7_eq_skeleton]
  unfold k0_part7_skel
  sl_exec
  sl_for (fun k _ => Row d L rV (a1V).view.set (b1V).view.set (la1 m d L) (lb1 m d L) (scN (m (xLoc d))) (odN (m (yLoc d))) (row0 L) k 0) $$ [Ha1 Hb1 Hr]
  case region =>
    intro k _
    exact row1 d L _ _ _ _ _ _ (row0 L) k _ (ok1 m d L hrange k.val k.isLt)
  · unfold Row
    isplitl [Ha1]; · iexact Ha1
    isplitl [Hb1]; · iexact Hb1
    iexists fr
    isplitr
    · ipureintro; exact Placed.zero _ _ _ _
    · rw [access_set, View.set_whole]; iexact Hr
  iintro %_ HI
  unfold Row
  icases HI with ⟨Ha1, Hb1, %g1, %hg1, Hr⟩
  ihave Hr := (show ((rV.access (.whole S8192)).loc (thr d L) ↦[(rV.access (.whole S8192)).set]{fullShare} g1 : sProp 𝕄)
    ⊢ iprop(((r1V).view.loc (thr d L) ↦[(r1V).view.set]{fullShare} g1) ∗ ((r2V).view.loc (thr d L) ↦[(r2V).view.set]{fullShare} g1)) from by
      rw [access_set, View.set_whole]; exact split_univ (ℓ := (V d (cV L) (jV L)).loc cc0_scratch2) split_r g1) $$ Hr
  icases Hr with ⟨Hr1, Hr2⟩
  sl_exec
  sl_for (fun k _ => Row d L r2V (a2V).view.set (b2V).view.set (la2 m d L (a2V).view.junk) (lb2 m d L (b2V).view.junk) (scN (m (xLoc d))) (odN (m (yLoc d))) (row0 L + 16) k 0) $$ [Ha2 Hb2 Hr2]
  case region =>
    intro k _
    exact row2 d L _ _ _ _ _ _ (row0 L + 16) k (ok2 m d L hrange _ _ k.val k.isLt)
  · unfold Row
    isplitl [Ha2]; · iexact Ha2
    isplitl [Hb2]; · iexact Hb2
    iexists g1
    isplitr
    · ipureintro; exact Placed.zero _ _ _ _
    · rw [access_set]; iexact Hr2
  iintro %_ HI
  unfold Row
  icases HI with ⟨Ha2, Hb2, %g2, %hg2, Hr⟩
  ihave Hr2 := (show ((r2V.access (.whole S4096)).loc (thr d L) ↦[(r2V.access (.whole S4096)).set]{fullShare} g2 : sProp 𝕄)
    ⊢ ((r2V).view.loc (thr d L) ↦[(r2V).view.set]{fullShare} g2) from Entails.of_eq (by rw [access_set])) $$ Hr
  sl_exec
  sl_step
  isplitl [Hx1 Hx2 Hy1 Hy2 Ho1 Ho2]
  · isplitl [Hx1]; · iexact Hx1
    isplitl [Hx2]; · iexact Hx2
    isplitl [Hy1]; · iexact Hy1
    isplitl [Hy2]; · iexact Hy2
    isplitl [Ho1]
    · iexists _
      isplitr
      swap; · iexact Ho1
      ipureintro
      exact half1 m d L hrange ((r1V).view.read (Elt F) g1) (placed_low _ _ _ g1 hg1) (m (oLoc d))
    · iexists _
      isplitr
      swap; · iexact Ho2
      ipureintro
      exact half2 m d L hrange ((r2V).view.read (Elt F) g2) (by rw [access_read] at hg2; exact hg2) _
  isplitl [Ha1 Ha2 Hb1 Hb2 Hr1 Hr2 Hbufs]
  · isplitl [Ha1 Ha2]
    · iapply (join_univ (ℓ := (V d (cV L) (jV L)).loc cc0_scratch0) split_a _ _)
      isplitl [Ha1]; · iexact Ha1
      iexact Ha2
    isplitl [Hb1 Hb2]
    · iapply (join_univ (ℓ := (V d (cV L) (jV L)).loc cc0_scratch1) split_b _ _)
      isplitl [Hb1]; · iexact Hb1
      iexact Hb2
    isplitl [Hr1 Hr2]
    · iapply (join_univ (ℓ := (V d (cV L) (jV L)).loc cc0_scratch2) split_r _ _)
      isplitl [Hr1]; · iexact Hr1
      iexact Hr2
    iexact Hbufs
  isplitl [Hc1 Hc2 Hc3 Hc4 Hsems]
  · isplitl [Hc1]; · iexact Hc1
    isplitl [Hc2]; · iexact Hc2
    isplitl [Hc3]; · iexact Hc3
    isplitl [Hc4]; · iexact Hc4
    iexact Hsems
  iexists _; isplitr
  swap; · iexact HO
  ipureintro; intro p _
  rcases p.2 with _ | q
  · exact .inr (.inl rfl)
  · exact .inr (.inr (congrArg some (Subsingleton.elim q 0)))

end Tile

end Cert.Proof.Sc
-- ==== Proof.Split.lean ====
/-
  How the call's three arrays fall into the tasks' pieces: sixty-four blocks, block `4 i + 2 c + h` to half `h` of the task of
  subcore `i` on core `c`. An array held whole is held in those pieces, and the pieces, each at contents of its own, make it up again.
-/
module

public import proofs.«01_k».proof.Proof.Tile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Placed

variable {F : FTy → Type}

local notation "𝕄" => MT nD τ sig (HIx 1) (Elt F) ℕ UU ℕ

/-- A task: its core and its subcore. -/
abbrev Task : Type := Fin 2 × Fin 16

def coordsV (c : Fin (grid0.bound 0)) (s : Fin (grid0.bound 1)) : grid0.Coords :=
  fun | 0 => c | 1 => s | ⟨_ + 2, h⟩ => absurd h (Nat.not_lt.2 (Nat.le_add_left _ _))
abbrev cd (p : Task) : grid0.Coords := coordsV p.1 p.2

section Blocks

variable {ℓ : Loc nD τ sig} (g : Idx ℓ → ℕ) (hlt : ∀ i, g i < 64) (A B : Task → Finset (Idx ℓ))
  (hA : ∀ p i, i ∈ A p ↔ g i = 4 * p.2.val + 2 * p.1.val) (hB : ∀ p i, i ∈ B p ↔ g i = 4 * p.2.val + 2 * p.1.val + 1)

include hA hB in
theorem halves_disjoint (p : Task) : Disjoint (A p) (B p) := by
  rw [Finset.disjoint_left]; intro i hi hj
  have := (hA p i).mp hi; have := (hB p i).mp hj; omega

include hA hB in
theorem mem_halves (p : Task) (i : Idx ℓ) : i ∈ A p ∪ B p ↔ g i / 2 = 2 * p.2.val + p.1.val := by
  rw [Finset.mem_union, hA, hB]
  constructor
  · rintro (h | h) <;> omega
  · intro h; omega

include hA hB in
theorem tasks_disjoint : ∀ p ∈ (Finset.univ : Finset Task), ∀ q ∈ (Finset.univ : Finset Task), p ≠ q → Disjoint (A p ∪ B p) (A q ∪ B q) := by
  intro p _ q _ h
  rw [Finset.disjoint_left]; intro i hi hj
  have h1 := (mem_halves g A B hA hB p i).mp hi
  have h2 := (mem_halves g A B hA hB q i).mp hj
  have := p.1.isLt; have := q.1.isLt
  exact h (Prod.ext (Fin.ext (by omega)) (Fin.ext (by omega)))

include hlt hA hB in
theorem tasks_cover : (Finset.univ : Finset Task).biUnion (fun p => A p ∪ B p) = Finset.univ := by
  ext i
  simp only [Finset.mem_biUnion, Finset.mem_univ, true_and, iff_true]
  have := hlt i
  exact ⟨(⟨g i / 2 % 2, by omega⟩, ⟨g i / 4, by omega⟩), (mem_halves g A B hA hB _ i).mpr (by show g i / 2 = 2 * (g i / 4) + g i / 2 % 2; omega)⟩

include hlt hA hB in
/-- The array whole is the array in its pieces. -/
theorem pieces_split (f : Buf (Elt F) ℓ) :
    (ℓ ↦{fullShare} f : sProp 𝕄) = bigSep Finset.univ fun p : Task => iprop((ℓ ↦[A p]{fullShare} f) ∗ (ℓ ↦[B p]{fullShare} f)) := by
  rw [show (bigSep Finset.univ fun p : Task => iprop((ℓ ↦[A p]{fullShare} f) ∗ (ℓ ↦[B p]{fullShare} f)) : sProp 𝕄)
      = bigSep Finset.univ fun p : Task => ℓ ↦[A p ∪ B p]{fullShare} f from
    bigSep_congr fun p _ => (BI.equiv_iff.mp ⟨(pointsTo_union (halves_disjoint g A B hA hB p)).1, (pointsTo_union (halves_disjoint g A B hA hB p)).2⟩).symm,
    ← pointsTo_biUnion Finset.univ (ℓ := ℓ) (fun p => A p ∪ B p) (tasks_disjoint g A B hA hB), tasks_cover g hlt A B hA hB]

include hlt hA hB in
/-- The pieces, each at contents of its own with a property, are the array whole at contents that agree with each on its piece. -/
theorem pieces_join (f₀ : Buf (Elt F) ℓ) (P Q : Task → Buf (Elt F) ℓ → Prop) :
    (bigSep Finset.univ fun p : Task => iprop((∃ f, ⌜P p f⌝ ∗ (ℓ ↦[A p]{fullShare} f)) ∗ (∃ f, ⌜Q p f⌝ ∗ (ℓ ↦[B p]{fullShare} f))))
      ⊢ (iprop(∃ f, ⌜∀ p, (∃ f', P p f' ∧ ∀ i ∈ A p, f i = f' i) ∧ (∃ f', Q p f' ∧ ∀ i ∈ B p, f i = f' i)⌝ ∗ (ℓ ↦{fullShare} f)) : sProp 𝕄) := by
  let R : Task → Buf (Elt F) ℓ → Prop := fun p f => (∃ f', P p f' ∧ ∀ i ∈ A p, f i = f' i) ∧ (∃ f', Q p f' ∧ ∀ i ∈ B p, f i = f' i)
  have h1 : ∀ p ∈ (Finset.univ : Finset Task),
      (iprop((∃ f, ⌜P p f⌝ ∗ (ℓ ↦[A p]{fullShare} f)) ∗ (∃ f, ⌜Q p f⌝ ∗ (ℓ ↦[B p]{fullShare} f))) : sProp 𝕄)
        ⊢ iprop(∃ f, ⌜R p f⌝ ∗ (ℓ ↦[A p ∪ B p]{fullShare} f)) := by
    intro p _
    have hd := halves_disjoint g A B hA hB p
    iintro ⟨⟨%f1, %hf1, H1⟩, ⟨%f2, %hf2, H2⟩⟩
    iexists (B p).piecewise f2 f1
    isplitr
    · ipureintro
      exact ⟨⟨f1, hf1, fun i hi => Finset.piecewise_eq_of_notMem _ _ _ (Finset.disjoint_left.mp hd hi)⟩, f2, hf2, fun i hi => Finset.piecewise_eq_of_mem _ _ _ hi⟩
    iapply (pointsTo_join hd)
    isplitl [H1] <;> iassumption
  have : Nonempty (Buf (Elt F) ℓ) := ⟨f₀⟩
  refine (bigSep_mono h1).trans ((bigSep_exists_pi Finset.univ _).trans ?_)
  iintro ⟨%fs, H⟩
  ihave H := (BI.bigSep_pure_sep Finset.univ (fun p : Task => R p (fs p)) (fun p => (ℓ ↦[A p ∪ B p]{fullShare} fs p))) $$ H
  icases H with ⟨%hR, H⟩
  ihave H := (pointsTo_biUnion_join (ℓ := ℓ) (q := fullShare) (Val := Elt F) Finset.univ (fun p => A p ∪ B p) fs (fs (0, 0)) (tasks_disjoint g A B hA hB)) $$ H
  icases H with ⟨%f, %hf, H⟩
  rw [tasks_cover g hlt A B hA hB]
  iexists f
  isplitr
  · ipureintro
    intro p
    obtain ⟨⟨a, ha, ha'⟩, b, hb, hb'⟩ := hR p (Finset.mem_univ _)
    exact ⟨⟨a, ha, fun i hi => (hf p (Finset.mem_univ _) i (Finset.mem_union_left _ hi)).trans (ha' i hi)⟩,
      b, hb, fun i hi => (hf p (Finset.mem_univ _) i (Finset.mem_union_right _ hi)).trans (hb' i hi)⟩
  iexact H

end Blocks

/-! ## The three arrays' pieces -/

theorem mem_x1 (p : Task) (i : S1024x200.Idx) : i ∈ (x1V (cd p)).view.set ↔ (i 0).val / 16 = 4 * p.2.val + 2 * p.1.val := by
  rw [View.set_slice_whole, Rect.mem_set_unit, k0_off1_eq]
  have e0 : ((cd p) 0).val = p.1.val := rfl
  have e1 : ((cd p) 1).val = p.2.val := rfl
  have h1 : (i 1).val < 200 := (i 1).isLt
  constructor
  · intro h; have := h 0
    have h' : 64 * ((cd p) 1).val + 32 * ((cd p) 0).val ≤ (i 0).val ∧ (i 0).val < 64 * ((cd p) 1).val + 32 * ((cd p) 0).val + 16 := this
    omega
  · intro h a
    match a with
    | ⟨0, _⟩ => show 64 * ((cd p) 1).val + 32 * ((cd p) 0).val ≤ (i 0).val ∧ (i 0).val < 64 * ((cd p) 1).val + 32 * ((cd p) 0).val + 16; omega
    | ⟨1, _⟩ => exact ⟨Nat.zero_le _, by show (i 1).val < 0 + 200; omega⟩
theorem mem_x2 (p : Task) (i : S1024x200.Idx) : i ∈ (x2V (cd p)).view.set ↔ (i 0).val / 16 = 4 * p.2.val + 2 * p.1.val + 1 := by
  rw [View.set_slice_whole, Rect.mem_set_unit, k0_off2_eq]
  have e0 : ((cd p) 0).val = p.1.val := rfl
  have e1 : ((cd p) 1).val = p.2.val := rfl
  have h1 : (i 1).val < 200 := (i 1).isLt
  constructor
  · intro h; have := h 0
    have h' : 64 * ((cd p) 1).val + 32 * ((cd p) 0).val + 16 ≤ (i 0).val ∧ (i 0).val < 64 * ((cd p) 1).val + 32 * ((cd p) 0).val + 16 + 16 := this
    omega
  · intro h a
    match a with
    | ⟨0, _⟩ => show 64 * ((cd p) 1).val + 32 * ((cd p) 0).val + 16 ≤ (i 0).val ∧ (i 0).val < 64 * ((cd p) 1).val + 32 * ((cd p) 0).val + 16 + 16; omega
    | ⟨1, _⟩ => exact ⟨Nat.zero_le _, by show (i 1).val < 0 + 200; omega⟩
theorem mem_o1 (p : Task) (i : S262144.Idx) : i ∈ (o1V (cd p)).view.set ↔ (i 0).val / 4096 = 4 * p.2.val + 2 * p.1.val := by
  rw [View.set_slice_whole, Rect.mem_set_unit, k0_off16_eq]
  have e0 : ((cd p) 0).val = p.1.val := rfl
  have e1 : ((cd p) 1).val = p.2.val := rfl
  constructor
  · intro h; have := h 0
    have h' : 16384 * ((cd p) 1).val + 8192 * ((cd p) 0).val ≤ (i 0).val ∧ (i 0).val < 16384 * ((cd p) 1).val + 8192 * ((cd p) 0).val + 4096 := this
    omega
  · intro h a
    match a with
    | ⟨0, _⟩ => show 16384 * ((cd p) 1).val + 8192 * ((cd p) 0).val ≤ (i 0).val ∧ (i 0).val < 16384 * ((cd p) 1).val + 8192 * ((cd p) 0).val + 4096; omega
theorem mem_o2 (p : Task) (i : S262144.Idx) : i ∈ (o2V (cd p)).view.set ↔ (i 0).val / 4096 = 4 * p.2.val + 2 * p.1.val + 1 := by
  rw [View.set_slice_whole, Rect.mem_set_unit, k0_off30_eq]
  have e0 : ((cd p) 0).val = p.1.val := rfl
  have e1 : ((cd p) 1).val = p.2.val := rfl
  constructor
  · intro h; have := h 0
    have h' : 16384 * ((cd p) 1).val + 8192 * ((cd p) 0).val + 4096 ≤ (i 0).val ∧ (i 0).val < 16384 * ((cd p) 1).val + 8192 * ((cd p) 0).val + 4096 + 4096 := this
    omega
  · intro h a
    match a with
    | ⟨0, _⟩ => show 16384 * ((cd p) 1).val + 8192 * ((cd p) 0).val + 4096 ≤ (i 0).val ∧ (i 0).val < 16384 * ((cd p) 1).val + 8192 * ((cd p) 0).val + 4096 + 4096; omega

theorem row_lt (i : S1024x200.Idx) : (i 0).val / 16 < 64 := by have : (i 0).val < 1024 := (i 0).isLt; omega
theorem slot_lt (i : S262144.Idx) : (i 0).val / 4096 < 64 := by have : (i 0).val < 262144 := (i 0).isLt; omega

/-! ## The whole result -/

/-- Every score whose rank is its own in its row stands in the slot the rank names. -/
def AllPlaced (x : Vec F S1024x200 .f32) (y : IVec S1024x200 32) (g : Vec F S262144 .f32) : Prop :=
  ∀ b k, b < 1024 → k < 200 → Uniq (odN y) b k → ∀ z : S262144.Idx, (z 0).val + 1 = b * 256 + (odN y b k).toNat → g z = scN x b k

theorem allPlaced_of_halves (x : Vec F S1024x200 .f32) (y : IVec S1024x200 32) (hrange : InRange (odN y)) (g : Vec F S262144 .f32)
    (h : ∀ p : Task, (∃ f', Half x y (row0 (cd p)) f' ∧ ∀ i ∈ (o1V (cd p)).view.set, g i = f' i)
      ∧ (∃ f', Half x y (row0 (cd p) + 16) f' ∧ ∀ i ∈ (o2V (cd p)).view.set, g i = f' i)) : AllPlaced x y g := by
  intro b k hb hk hu z hz
  have ho := hrange b k
  have hc : b / 32 % 2 < 2 := by omega
  have hi : b / 64 < 16 := by omega
  obtain ⟨⟨f1, H1, e1⟩, f2, H2, e2⟩ := h (⟨b / 32 % 2, hc⟩, ⟨b / 64, hi⟩)
  have hr0 : row0 (cd (⟨b / 32 % 2, hc⟩, ⟨b / 64, hi⟩)) = 64 * (b / 64) + 32 * (b / 32 % 2) := rfl
  rw [hr0] at H1 H2
  rcases Nat.lt_or_ge (b % 32) 16 with hh | hh
  · rw [e1 z ((mem_o1 _ z).mpr (by show (z 0).val / 4096 = 4 * (b / 64) + 2 * (b / 32 % 2); omega))]
    have eb : 64 * (b / 64) + 32 * (b / 32 % 2) + b % 32 = b := by omega
    have := H1 (b % 32) k hh hk (by rw [eb]; exact hu) z (by rw [eb]; exact hz)
    rwa [eb] at this
  · rw [e2 z ((mem_o2 _ z).mpr (by show (z 0).val / 4096 = 4 * (b / 64) + 2 * (b / 32 % 2) + 1; omega))]
    have eb : 64 * (b / 64) + 32 * (b / 32 % 2) + 16 + (b % 32 - 16) = b := by omega
    have := H2 (b % 32 - 16) k (by omega) hk (by rw [eb]; exact hu) z (by rw [eb]; exact hz)
    rwa [eb] at this

end Cert.Proof.Sc
-- ==== Proof.Region.lean ====
/-
  The TensorCore's pallas_call: its body run at its one point, the proof data of the region, and the region as a segment of
  @main over all of a device's unscoped buffers.
-/
module

public import proofs.«01_k».proof.Proof.Setup
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit
public import Idealize.ShloMosaic.Lib.VecWindow

@[expose] public section

noncomputable section

namespace Cert.Proof.Sc

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The body, run by the executor -/

/-- What the TensorCore's body computes of its input block: the loss of the block's rows, added to zero. -/
def tcVal (x : FVec F S2048x128 .f32) : FVec F S1x1 .f32 :=
  k1_pay2 (k1_pay3 (F := F)) k1_pay4 k1_pay5 (k1_pay6 x) (k1_pay7 x) (k1_pay8 x) k1_pay9 (k1_pay1 (F := F))

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- From both staging buffers whole, the body runs to its return, the input's buffer as it was and the output's at the
    body's value of it. -/
theorem body_run (c : Dev nD) (i : grid1.Coords) (hi : (i 0).val = 0)
    (x : FVec F S2048x128 .f32) (y : FVec F S1x1 .f32) (Q : PUnit → sProp 𝕄) :
    iprop(pt c (stage1_0 0) x ∗ pt c (stage1_1 0) y
        ∗ ((pt c (stage1_0 0) x ∗ pt c (stage1_1 0) (tcVal x)) -∗ Q ⟨⟩))
      ⊢ wp frame (wpE (defs₀ (F := F)) Variants.none (c : Thread nD τ) none) Set.univ (cc1_body i (stage1_0 0) (hstage1_0 0) (stage1_1 0) (hstage1_1 0)) Q := by
  iintro ⟨H0, H1, Hk⟩
  rw [cc1_body_eq_skeleton]; unfold cc1_body_skel
  rw [k1_part1_eq_skeleton]; unfold k1_part1_skel
  sl_exec!
  sl_step
  iapply Hk
  isplitl [H0]; · iexact H0
  have hv : body_run.sl.v72 i = 1#1 := by unfold body_run.sl.v72 body_run.sl.v71 body_run.sl.v70; rw [hi]; decide
  have e0 : View.readAt (Elt F) (stage1_0 0).view (Rect.unit ![0, 0] S2048x128.size inb_S2048x128_S2048x128_0_0).toLoadRect x = x :=
    View.readAt_full (Val := Elt F) (Memref.whole cc1_stg0_0).view x inb_S2048x128_S2048x128_0_0
  have e : (stage1_1 0).view.writes (Elt F) (stage1_1 0).view.junk (body_run.sl.H1_1 i x y) = tcVal x := by
    unfold body_run.sl.H1_1 body_run.sl.v73
    rw [dif_pos hv, View.readAt_writes_full, e0]
    exact View.read_writes_full (Val := Elt F) (Memref.whole cc1_stg1_0).view _ inb_S1x1_S1x1_0_0 (tcVal x) []
  rw [← e]; iexact H1

/-! ## The proof data, at an entry valuation -/

variable (A : (c : Dev nD) → (b : Ref sig .tc) → Buf (Elt F) ((c : Thread nD τ).loc b))

/-- The input's block as the fetch stages it. -/
abbrev stg (c : Dev nD) : (cfg1.win 0).block.Idx → Elt F (cfg1.win 0).elt :=
  ((cfg1.win 0).blk t1_0).view.read (Elt F) (A c main_v1)

/-- Nothing is kept between the region's ends. -/
abbrev Φc (c : Dev nD) : sProp 𝕄 := Pipeline.scopedRest (Ix := HIx 1) (Name := ℕ) (U := UU) (Lvl := ℕ) (Val := Elt F) spec1 c

/-- The proof data of the region, from the valuation `A` and a bound `b` on the levels of the core's recorded waits. -/
def dat (b : ℕ) (c : Dev nD) : Dat τ (Elt F) (HIx 1) ℕ UU ℕ cfg1 c where
  A w := A c (Pipeline.arrRef spec1 w)
  after w _ := match w with
    | ⟨0, _⟩ => stg A c
    | ⟨1, _⟩ => tcVal (stg A c)
  Φ _ := Φc c
  q _ := fullShare
  owed _ := 0
  recorded _ := {p | (K (F := F)).lev ((c : Thread nD τ), p.1) p.2 ≤ b}

abbrev adm : (p : Fin 1) → (pcfgs (F := F) p).Adm := fun p => (cfgs p).toPCfg_adm

def pdats (b : ℕ) : (p : Fin 1) → (c : Dev nD) → Dat τ (Elt F) (HIx 1) ℕ UU ℕ (Pipeline.pin (pcfgs (F := F)) adm p) c
  | ⟨0, _⟩ => fun c => dat A b c

theorem before_in (b : ℕ) (c : Dev nD) (d : (cfg1.win 0).block.Idx → Elt F (cfg1.win 0).elt) : (dat A b c).before 0 t1_0 d = stg A c := by
  unfold Dat.before; rw [if_pos (by decide)]; rfl

theorem owns_st0 (c : Dev nD) (X : (cfg1.win 0).block.Idx → Elt F (cfg1.win 0).elt) :
    (owns c (stage1_0 (cfg1.slots t1_0 0)) fullShare X : sProp 𝕄) = iprop(∃ f : FVec F S2048x128 .f32, ⌜f = X⌝ ∗ pt c (stage1_0 0) f) :=
  owns_whole_eq (c : Thread nD τ) cc1_stg0_0 fullShare X

theorem owns_st1 (c : Dev nD) (X : (cfg1.win 1).block.Idx → Elt F (cfg1.win 1).elt) :
    (owns c (stage1_1 (cfg1.slots t1_0 1)) fullShare X : sProp 𝕄) = iprop(∃ f : FVec F S1x1 .f32, ⌜f = X⌝ ∗ pt c (stage1_1 0) f) :=
  owns_whole_eq (c : Thread nD τ) cc1_stg1_0 fullShare X

theorem body_obligation (b : ℕ) (c : Dev nD) : BodyObligation (dat A b c) (defs₀ (F := F)) 𝒱₀ none Set.univ := fun t => by
  obtain rfl := fin_N1 t
  rw [bigSep_W1, bigSep_W1]
  simp only [owns_st0, owns_st1]
  rw [show (dat A b c).Φ t1_0.castSucc = Φc c from rfl, show (dat A b c).Φ t1_0.succ = Φc c from rfl,
    show (dat A b c).owesAt none t1_0.succ = (dat A b c).owesAt none t1_0.castSucc from rfl]
  iintro ⟨HΦ, Howes, ⟨%d0, %f0, %hf0, H0⟩, ⟨%d1, %f1, -, H1⟩⟩
  rw [before_in] at hf0
  subst hf0
  iapply (body_run c (grid1.coords t1_0) (by decide) (stg A c) f1 _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-! ## The region over a device's unscoped buffers -/

variable (B : (c : Dev nD) → (b : Ref sig .tc) → Buf (Elt F) ((c : Thread nD τ).loc b))

/-- The core owes nothing, its recorded waits at levels at most `b`. -/
abbrev owesB (b : ℕ) (c : Dev nD) : sProp 𝕄 :=
  iprop(∃ W, ⌜(K (F := F)).WBelow (c : Thread nD τ) W b⌝ ∗ owes (c : Thread nD τ) (0 : CellTallies nD τ sig (HIx 1)) W)

set_option backward.isDefEq.respectTransparency.types false in
/-- The region, entered at `A` and left at `B`: `A` with the result's array at the body's value. -/
def reg (b : ℕ) (hB : ∀ c, B c main_v2 = (dat A b c).arrAt 1 cfg1.N) (hne : ∀ c (r : Ref sig .tc), r ≠ main_v2 → B c r = A c r) :
    Pipeline.RegionSeg (pcfgs (F := F)) adm (pdats A b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation A b c).loose
  hwaits := Pipeline.hwaits_of_owed_zero _ _ _ _ _ _ 0 fun _ _ => rfl
  pre c := iprop(unscopedBufs c (A c) ∗ owesB b c)
  post c := iprop(unscopedBufs c (B c) ∗ owesB b c)
  X _ := BI.emp
  Y _ := BI.emp
  Z c := Pipeline.unscopedRest (Ix := HIx 1) (Name := ℕ) (U := UU) (Lvl := ℕ) spec1 c (A c)
  hentry c := by
    rw [Pipeline.ownSems0_none]
    have hsplit := Pipeline.arrays_of_unscopedBufs (p := 0) (pcfgs (F := F)) adm (pdats A b) launch1.win launch1.arr_whole c
      ((pdats A b 0 c).share_full fun _ => rfl) (A c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr; · iempintro
    iexact Hrest
  hin c := by
    rw [show (pdats A b 0 c).Φ 0 = Φc c from rfl]
    iintro ⟨-, -, Hr⟩; iexact Hr
  hout c := by
    rw [Pipeline.ownSems0_none, show (pdats A b 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats A b) ((pdats A b 0 c).share_full fun _ => rfl) (A c) (B c) ((pdats A b 0 c).arrAt · cfg1.N)
      (fun w => by
        fin_cases w
        · exact ((pdats A b 0 c).arrAt_in 0 rfl _).trans (hne c main_v1 (by decide)).symm
        · exact (hB c).symm)
      (fun r hr => hne c r fun h => hr (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW (Finset.mem_coe.mpr hp) with h | ⟨w, s, h⟩
      · exact h
      · rw [h]; exact Nat.zero_le _
    iexact HO

/-- The result's array after the region is the body's value of the input's array. -/
theorem arrAt_out (b : ℕ) (c : Dev nD) : (dat A b c).arrAt 1 cfg1.N = tcVal (A c main_v1) := by
  refine (dat A b c).arrAt_eq_of_after_last 1 t1_0 (by decide +kernel) _ (fun j => ?_)
  have e : stg A c = A c main_v1 := by
    funext y; show A c main_v1 _ = A c main_v1 y; congr 1
    funext a; apply Fin.ext
    show (((cfg1.win 0).rect t1_0).emb y a).val = _
    rw [Pipeline.Window.rect_emb_val_of_index_zero _ _ _ (by revert a; decide +kernel)]
  show tcVal (stg A c) _ = tcVal (A c main_v1) _
  rw [e]
  congr 1

end Cert.Proof.Sc
-- ==== Proof.Main.lean ====
/-
  The launch: the SparseCore call's tasks, then the flattening, the TensorCore's call and the scalar's cast, in the order the
  program runs them; what the device's buffers hold at the end.
-/
module

public import proofs.«01_k».proof.Proof.Split
public import proofs.«01_k».proof.Proof.Region

@[expose] public section

noncomputable section

namespace Cert.Proof.Sc

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Placed

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the call hands its tasks -/

def P : (K (F := F)).Pay (nD := nD) (Val := Elt F) (Name := ℕ) (U := UU) where
  st := fun q d c => match q with | 0 => bigSep Finset.univ fun i : Fin 16 => goP m d (coordsV c i)
  dn := fun q d c => match q with | 0 => bigSep Finset.univ fun i : Fin 16 => tdP m d (coordsV c i)
  go := fun q d c i => match q with | 0 => goP m d (coordsV c i)
  td := fun q d c i => match q with | 0 => tdP m d (coordsV c i)
  x := fun _ _ => iprop(emp)

instance P_storable : (P (F := F) m).IsStorable where
  st q d c := match q with
    | 0 => (inferInstance : BI.Storable (upEmb : UEmb _ 𝕄) (bigSep Finset.univ fun i : Fin 16 => goP m d (coordsV c i)))
  dn q d c := match q with
    | 0 => (inferInstance : BI.Storable (upEmb : UEmb _ 𝕄) (bigSep Finset.univ fun i : Fin 16 => tdP m d (coordsV c i)))
  go q d c i := match q with
    | 0 => (inferInstance : BI.Storable (upEmb : UEmb _ 𝕄) (goP m d (coordsV c i)))
  td q d c i := match q with
    | 0 => (inferInstance : BI.Storable (upEmb : UEmb _ 𝕄) (tdP m d (coordsV c i)))

theorem defs₀_vector (c : Fin τ.nSC) (s : Fin τ.nSub) :
    defs₀ (F := F) (.scVector c s) 0 ()
      = SparseCore.onTile hcore0 hsub0 (fun c s => cc0_sc_scatter (coordsV c s)
          xV (Memref.isWhole_whole _) yV (Memref.isWhole_whole _) oV (Memref.isWhole_whole _)
          aV (Memref.isWhole_whole _) bV (Memref.isWhole_whole _) rV (Memref.isWhole_whole _) cc0_scratch3 cc0_scratch4 cc0_scratch5 cc0_scoped0) ⟨⟩ c s := rfl

/-- The ranks of every device are in range. -/
abbrev Ranks : Prop := ∀ d, InRange (odN (m (yLoc d)))

theorem tileObl (hR : Ranks m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) (hR d) hF O W hO

theorem vecSplit : (K (F := F)).VecSplit' (P m) 0 := by
  intro d c
  show (bigSep Finset.univ fun i : Fin 16 => goP m d (coordsV c i)) ⊢ |={Set.univ}=> iprop(
      (bigSep Finset.univ fun i : Fin 16 => goP m d (coordsV c i))
      ∗ ((bigSep Finset.univ fun i : Fin 16 => tdP m d (coordsV c i)) -∗ (bigSep Finset.univ fun i : Fin 16 => tdP m d (coordsV c i))))
  iintro H; imodintro
  isplitl [H]; · iexact H
  iintro H; iexact H

/-! ## The launch element -/

abbrev pinned : (p : Fin 1) → Pipeline.Cfg sig Λ₀ := Pipeline.pin (pcfgs (F := F)) adm

def u₀ : UU := (initOf (K (F := F)).hsCells (K (F := F)).hsToks,
  (initOf (Pipeline.cells (pinned (F := F)) cellOf_inj) (Pipeline.launchToks (pinned (F := F)) cellOf_inj), 1))

/-- What the TensorCore of `d` is dealt for its pipelined call. -/
abbrev G (d : Dev nD) : sProp 𝕄 := iprop(Pipeline.cellsGhost (pinned (F := F)) EP 0 d ∗ Pipeline.toksInit (pinned (F := F)) EP 0 d)

omit [FloatOps F] in
theorem all_emp {I : Type} (s : Finset I) : (bigSep s fun _ => iprop(emp)) = (iprop(emp) : sProp 𝕄) := bigSep_emp_const s

theorem own_right (a : UR sig nD τ) : (BI.own ((embR : Emb UP 𝕄) (a, (1 : Counters))) : sProp 𝕄)
    ⊢ iprop(BI.own ((EP : Emb (UR sig nD τ) 𝕄) a) ∗ BI.own (((Emb.inr : Emb Counters UP).trans (embR : Emb UP 𝕄)) 1)) :=
  own_pair_emb (embR : Emb UP 𝕄) a 1

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pinned (F := F)) cellOf_inj) (Pipeline.launchToks (pinned (F := F)) cellOf_inj), (1 : Counters)))) $$ Hu
  icases H with ⟨HH, HP⟩
  ihave HP := (own_right (initOf (Pipeline.cells (pinned (F := F)) cellOf_inj) (Pipeline.launchToks (pinned (F := F)) cellOf_inj))) $$ HP
  icases HP with ⟨HP, -⟩
  imod (Pipeline.fund_ghost (pinned (F := F)) (EP : Emb (UR sig nD τ) 𝕄) cellOf_inj) $$ HP with ⟨Hg, Ht⟩
  imodintro
  isplitl [HH]; · iexact HH
  isplitl [Hg Ht]
  · rw [bigSep_sep', show (bigSep Finset.univ fun d : Dev nD => (Pipeline.cellsGhost (pinned (F := F)) EP 0 d : sProp 𝕄))
        = bigSep Finset.univ fun d : Dev nD => bigSep Finset.univ fun p => Pipeline.cellsGhost (pinned (F := F)) EP p d from
      bigSep_congr fun d _ => (bigSep_univ_of_subsingleton (Φ := fun p => Pipeline.cellsGhost (pinned (F := F)) EP p d) (0 : Fin 1)).symm,
      show (bigSep Finset.univ fun d : Dev nD => (Pipeline.toksInit (pinned (F := F)) EP 0 d : sProp 𝕄))
        = bigSep Finset.univ fun d : Dev nD => bigSep Finset.univ fun p => Pipeline.toksInit (pinned (F := F)) EP p d from
      bigSep_congr fun d _ => (bigSep_univ_of_subsingleton (Φ := fun p => Pipeline.toksInit (pinned (F := F)) EP p d) (0 : Fin 1)).symm]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), all_emp]
  iempintro

/-! ## The call's arrays, dealt and gathered -/

theorem st0_eq (d : Dev nD) :
    (bigSep Finset.univ fun c : Fin ((K (F := F)).nCore 0) => (P m).st 0 d c) = bigSep Finset.univ fun p : Task => goP m d (cd p) :=
  (BI.bigSep_univ_prod (fun p : Fin 2 × Fin 16 => goP m d (cd p))).symm
theorem dn0_eq (d : Dev nD) :
    (bigSep Finset.univ fun c : Fin ((K (F := F)).nCore 0) => (P m).dn 0 d c) = bigSep Finset.univ fun p : Task => tdP m d (cd p) :=
  (BI.bigSep_univ_prod (fun p : Fin 2 × Fin 16 => tdP m d (cd p))).symm

theorem deal (d : Dev nD) :
    (iprop((xLoc d ↦{fullShare} m (xLoc d)) ∗ (yLoc d ↦{fullShare} m (yLoc d)) ∗ (oLoc d ↦{fullShare} m (oLoc d))) : sProp 𝕄)
      ⊢ bigSep Finset.univ fun p : Task => goP m d (cd p) := by
  have h' : ∀ p ∈ (Finset.univ : Finset Task), (iprop(((xLoc d ↦[(x1V (cd p)).view.set]{fullShare} m (xLoc d)) ∗ (xLoc d ↦[(x2V (cd p)).view.set]{fullShare} m (xLoc d)))
      ∗ ((yLoc d ↦[(y1V (cd p)).view.set]{fullShare} m (yLoc d)) ∗ (yLoc d ↦[(y2V (cd p)).view.set]{fullShare} m (yLoc d)))
      ∗ ((oLoc d ↦[(o1V (cd p)).view.set]{fullShare} m (oLoc d)) ∗ (oLoc d ↦[(o2V (cd p)).view.set]{fullShare} m (oLoc d)))) : sProp 𝕄)
      ⊢ goP m d (cd p) := by
    intro p _
    iintro ⟨⟨Hx1, Hx2⟩, ⟨Hy1, Hy2⟩, ⟨Ho1, Ho2⟩⟩
    isplitl [Hx1]; · iexact Hx1
    isplitl [Hx2]; · iexact Hx2
    isplitl [Hy1]; · iexact Hy1
    isplitl [Hy2]; · iexact Hy2
    isplitl [Ho1]; · iexact Ho1
    iexact Ho2
  rw [pieces_split (ℓ := xLoc d) (fun i : S1024x200.Idx => (i 0).val / 16) row_lt (fun p => (x1V (cd p)).view.set) (fun p => (x2V (cd p)).view.set) mem_x1 mem_x2,
    pieces_split (ℓ := yLoc d) (fun i : S1024x200.Idx => (i 0).val / 16) row_lt (fun p => (y1V (cd p)).view.set) (fun p => (y2V (cd p)).view.set) mem_x1 mem_x2,
    pieces_split (ℓ := oLoc d) (fun i : S262144.Idx => (i 0).val / 4096) slot_lt (fun p => (o1V (cd p)).view.set) (fun p => (o2V (cd p)).view.set) mem_o1 mem_o2,
    ← bigSep_sep', ← bigSep_sep']
  exact bigSep_mono h'

theorem gather (hR : Ranks m) (d : Dev nD) :
    (bigSep Finset.univ fun p : Task => tdP m d (cd p))
      ⊢ (iprop((xLoc d ↦{fullShare} m (xLoc d)) ∗ (yLoc d ↦{fullShare} m (yLoc d))
          ∗ ∃ g : Buf (Elt F) (oLoc d), ⌜AllPlaced (m (xLoc d)) (m (yLoc d)) g⌝ ∗ (oLoc d ↦{fullShare} g)) : sProp 𝕄) := by
  rw [pieces_split (ℓ := xLoc d) (fun i : S1024x200.Idx => (i 0).val / 16) row_lt (fun p => (x1V (cd p)).view.set) (fun p => (x2V (cd p)).view.set) mem_x1 mem_x2,
    pieces_split (ℓ := yLoc d) (fun i : S1024x200.Idx => (i 0).val / 16) row_lt (fun p => (y1V (cd p)).view.set) (fun p => (y2V (cd p)).view.set) mem_x1 mem_x2]
  have h := pieces_join (F := F) (ℓ := oLoc d) (fun i : S262144.Idx => (i 0).val / 4096) slot_lt (fun p => (o1V (cd p)).view.set) (fun p => (o2V (cd p)).view.set) mem_o1 mem_o2
    (m (oLoc d)) (fun p => Half (m (xLoc d)) (m (yLoc d)) (row0 (cd p))) (fun p => Half (m (xLoc d)) (m (yLoc d)) (row0 (cd p) + 16))
  have h' : ∀ p ∈ (Finset.univ : Finset Task), tdP m d (cd p) ⊢ (iprop(((xLoc d ↦[(x1V (cd p)).view.set]{fullShare} m (xLoc d)) ∗ (xLoc d ↦[(x2V (cd p)).view.set]{fullShare} m (xLoc d)))
      ∗ ((yLoc d ↦[(y1V (cd p)).view.set]{fullShare} m (yLoc d)) ∗ (yLoc d ↦[(y2V (cd p)).view.set]{fullShare} m (yLoc d)))
      ∗ ((∃ g : Buf (Elt F) (oLoc d), ⌜Half (m (xLoc d)) (m (yLoc d)) (row0 (cd p)) g⌝ ∗ (oLoc d ↦[(o1V (cd p)).view.set]{fullShare} g))
        ∗ (∃ g : Buf (Elt F) (oLoc d), ⌜Half (m (xLoc d)) (m (yLoc d)) (row0 (cd p) + 16) g⌝ ∗ (oLoc d ↦[(o2V (cd p)).view.set]{fullShare} g)))) : sProp 𝕄) := by
    intro p _
    iintro ⟨Hx1, Hx2, Hy1, Hy2, Ho1, Ho2⟩
    isplitl [Hx1 Hx2]; · isplitl [Hx1]; (· iexact Hx1); iexact Hx2
    isplitl [Hy1 Hy2]; · isplitl [Hy1]; (· iexact Hy1); iexact Hy2
    isplitl [Ho1]; · iexact Ho1
    iexact Ho2
  refine (bigSep_mono h').trans ((Entails.of_eq (bigSep_sep' _ _ _)).trans (sep_mono .rfl ((Entails.of_eq (bigSep_sep' _ _ _)).trans ?_)))
  iintro ⟨Hy, Ho⟩
  isplitl [Hy]; · iexact Hy
  ihave Ho := h $$ Ho
  icases Ho with ⟨%g, %hg, Ho⟩
  iexists g
  isplitr; · ipureintro; exact allPlaced_of_halves _ _ (hR d) g hg
  iexact Ho

/-! ## The buffers' contents, line by line -/

/-- A device's buffers as the launch finds them. -/
def V0 (d : Dev nD) : Valuation τ sig (Elt F) := fun b => m (d, b)
/-- After the SparseCore call, which leaves `g` in its result. -/
def V1 (g : FVec F S262144 .f32) (d : Dev nD) : Valuation τ sig (Elt F) := Function.update (V0 m d) (Proc.devRef .tc main_v0) g
abbrev op1 : HloOp τ sig (Elt F) := StableHlo.reshape main_v0 main_v1 (rfl : (.f32 : EltTy) = .f32) shapeCasts_S262144_S2048x128
abbrev op2 : HloOp τ sig (Elt F) := StableHlo.reshape main_v2 main_v3 (rfl : (.f32 : EltTy) = .f32) shapeCasts_S1x1_S_
def V2 (g : FVec F S262144 .f32) (d : Dev nD) : Valuation τ sig (Elt F) := (op1 (F := F)).result (V1 m g d)
/-- After the TensorCore's call. -/
def V3 (g : FVec F S262144 .f32) (d : Dev nD) : Valuation τ sig (Elt F) :=
  Function.update (V2 m g d) (Proc.devRef .tc main_v2) (tcVal (V2 m g d (Proc.devRef .tc main_v1)))
def V4 (g : FVec F S262144 .f32) (d : Dev nD) : Valuation τ sig (Elt F) := (op2 (F := F)).result (V3 m g d)

/-- The scalar the program leaves, from what the SparseCore call left. -/
def outVal (g : FVec F S262144 .f32) : FVec F S_ .f32 :=
  shapeCast S_ (tcVal (shapeCast S2048x128 g shapeCasts_S262144_S2048x128)) shapeCasts_S1x1_S_

theorem V4_arg0 (g : FVec F S262144 .f32) (d : Dev nD) : V4 m g d (Proc.devRef .tc main_arg0) = m (xLoc d) := by
  unfold V4
  rw [StableHlo.reshape_result_ne (r := main_arg0) (h := by decide)]
  unfold V3
  rw [Function.update_of_ne (StableHlo.devRef_ne_of_ne (by decide))]
  unfold V2
  rw [StableHlo.reshape_result_ne (r := main_arg0) (h := by decide)]
  unfold V1
  rw [Function.update_of_ne (StableHlo.devRef_ne_of_ne (by decide))]
  rfl
theorem V4_arg1 (g : FVec F S262144 .f32) (d : Dev nD) : V4 m g d (Proc.devRef .tc main_arg1) = m (yLoc d) := by
  unfold V4
  rw [StableHlo.reshape_result_ne (r := main_arg1) (h := by decide)]
  unfold V3
  rw [Function.update_of_ne (StableHlo.devRef_ne_of_ne (by decide))]
  unfold V2
  rw [StableHlo.reshape_result_ne (r := main_arg1) (h := by decide)]
  unfold V1
  rw [Function.update_of_ne (StableHlo.devRef_ne_of_ne (by decide))]
  rfl
theorem V4_out (g : FVec F S262144 .f32) (d : Dev nD) : V4 m g d (Proc.devRef .tc main_v3) = outVal g := by
  unfold V4
  rw [StableHlo.reshape_result']
  unfold V3
  rw [Function.update_self]
  unfold V2
  rw [StableHlo.reshape_result']
  unfold V1
  rw [Function.update_self]
  rfl

/-! ## @main on the TensorCore -/

omit [FloatOps F] in
theorem unscopedBufs_eq (d : Dev nD) (f : (b : Ref sig .tc) → Buf (Elt F) ((SparseCore.T d).loc b)) :
    unscopedBufs d f = (iprop((xLoc d ↦{fullShare} f main_arg0) ∗ (yLoc d ↦{fullShare} f main_arg1) ∗ (oLoc d ↦{fullShare} f main_v0)
      ∗ ((SparseCore.T d).loc main_v1 ↦{fullShare} f main_v1) ∗ ((SparseCore.T d).loc main_v2 ↦{fullShare} f main_v2)
      ∗ ((SparseCore.T d).loc main_v3 ↦{fullShare} f main_v3)) : sProp 𝕄) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The buffers of a valuation, as the TensorCore names them. -/
abbrev tcBufs (V : Dev nD → Valuation τ sig (Elt F)) (c : Dev nD) (b : Ref sig .tc) : Buf (Elt F) ((c : Thread nD τ).loc b) :=
  V c (Proc.devRef .tc b)

/-- What @main leaves: the buffers' last contents, the SparseCore call's result having the scores in rank order. -/
abbrev FIN (d : Dev nD) : sProp 𝕄 :=
  iprop(∃ g : FVec F S262144 .f32, ⌜AllPlaced (m (xLoc d)) (m (yLoc d)) g⌝ ∗ unscopedBufs d (tcBufs (V4 m g) d))

theorem V3_out (g : FVec F S262144 .f32) (b : ℕ) (c : Dev nD) :
    tcBufs (V3 m g) c main_v2 = (dat (tcBufs (V2 m g)) b c).arrAt 1 cfg1.N := by
  rw [arrAt_out]
  show V3 m g c (Proc.devRef .tc main_v2) = _
  unfold V3
  rw [Function.update_self]

theorem V3_ne (g : FVec F S262144 .f32) (c : Dev nD) (r : Ref sig .tc) (h : r ≠ main_v2) : tcBufs (V3 m g) c r = tcBufs (V2 m g) c r := by
  show V3 m g c (Proc.devRef .tc r) = _
  unfold V3
  rw [Function.update_of_ne (StableHlo.devRef_ne_of_ne h)]

abbrev regm (g : FVec F S262144 .f32) := reg (tcBufs (V2 m g)) (tcBufs (V3 m g)) (8 * 1) (V3_out m g _) (V3_ne m g)

/-- The buffers after the SparseCore call. -/
theorem bufs_V1 (g : FVec F S262144 .f32) (d : Dev nD) :
    (iprop((xLoc d ↦{fullShare} m (xLoc d)) ∗ (yLoc d ↦{fullShare} m (yLoc d)) ∗ (oLoc d ↦{fullShare} g)
      ∗ ((SparseCore.T d).loc main_v1 ↦{fullShare} m ((SparseCore.T d).loc main_v1)) ∗ ((SparseCore.T d).loc main_v2 ↦{fullShare} m ((SparseCore.T d).loc main_v2))
      ∗ ((SparseCore.T d).loc main_v3 ↦{fullShare} m ((SparseCore.T d).loc main_v3))) : sProp 𝕄)
      = unscopedBufs d (tcBufs (V1 m g) d) := by
  rw [unscopedBufs_eq]
  have h : ∀ r : Ref sig .tc, r ≠ main_v0 → tcBufs (V1 m g) d r = m ((SparseCore.T d).loc r) := fun r hr =>
    Function.update_of_ne (StableHlo.devRef_ne_of_ne hr) _ _
  rw [h main_arg0 (by decide), h main_arg1 (by decide), h main_v1 (by decide), h main_v2 (by decide), h main_v3 (by decide),
    show tcBufs (V1 m g) d main_v0 = g from Function.update_self _ _ _]

theorem bufs_V2 (g : FVec F S262144 .f32) (d : Dev nD) :
    (StableHlo.held (SparseCore.T d) (Pipeline.ucRefs τ sig) ((op1 (F := F)).result (V1 m g d)) : sProp 𝕄) = unscopedBufs d (tcBufs (V2 m g) d) :=
  (Pipeline.unscopedBufs_held (Ix := HIx 1) (Name := ℕ) (U := UU) (Lvl := ℕ) d (V2 m g d)).symm

theorem bufs_V4 (g : FVec F S262144 .f32) (d : Dev nD) :
    (StableHlo.held (SparseCore.T d) (Pipeline.ucRefs τ sig) ((op2 (F := F)).result (V3 m g d)) : sProp 𝕄) = unscopedBufs d (tcBufs (V4 m g) d) :=
  (Pipeline.unscopedBufs_held (Ix := HIx 1) (Name := ℕ) (U := UU) (Lvl := ℕ) d (V4 m g d)).symm

/-- What the TensorCore holds after the SparseCore call but for what it owes: its handshakes' places. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_one (d : Dev nD) : (K (F := F)).tcSt EH d ((0 : Fin 1).val + 1) = (iprop(owesB (F := F) (8 * 1) d ∗ tcRest (F := F) d) : sProp 𝕄) := by
  unfold SparseCore.Cfg.tcSt tcRest
  rw [(K (F := F)).Otc_end d (n := (0 : Fin 1).val + 1) le_rfl]
  rfl

/-- The TensorCore's call, in the program of pipelines. -/
def regionProg : Prog (TpuEff nD τ sig (Elt F) (Pipeline.Sig Λ₀ (Fin 1) fun p => (pcfgs (F := F) p).Adm) .tc) PUnit :=
  .op (.customCall (Pipeline.entry (0 : Fin 1)) ()) fun x => .ret x

theorem region_eq : (Prog.lift (.customCall (SparseCore.inner (Pipeline.entry (0 : Fin 1))) ()) :
      Prog (TpuEff nD τ sig (Elt F) (SparseCore.Sig (Pipeline.Sig Λ₀ (Fin 1) fun p => (pcfgs (F := F) p).Adm) 1) .tc) PUnit)
    = SparseCore.liftProg regionProg := rfl

theorem regm_pre (g : FVec F S262144 .f32) (d : Dev nD) :
    (regm m g).pre d = iprop(unscopedBufs d (tcBufs (V2 m g) d) ∗ owesB (F := F) (8 * 1) d) := rfl
theorem regm_post (g : FVec F S262144 .f32) (d : Dev nD) :
    (regm m g).post d = iprop(unscopedBufs d (tcBufs (V3 m g) d) ∗ owesB (F := F) (8 * 1) d) := rfl

/-- The TensorCore's call, as the program makes it. -/
theorem region_run [∀ e, Nonempty (Elt F e)] (g : FVec F S262144 .f32) (d : Dev nD) (Φ : PUnit → sProp 𝕄) :
    iprop(boundary (SparseCore.T d) ∗ unscopedBufs d (tcBufs (V2 m g) d) ∗ owesB (F := F) (8 * 1) d ∗ levAts (K (F := F)).L (K (F := F)).lev ∗ G (F := F) d
        ∗ ((boundary (SparseCore.T d) ∗ unscopedBufs d (tcBufs (V3 m g) d) ∗ owesB (F := F) (8 * 1) d) -∗ Φ ⟨⟩))
      ⊢ wp frame (wpE ((K (F := F)).defs (D (F := F))) 𝒱 (SparseCore.T d) none) Set.univ
          (Prog.lift (.customCall (SparseCore.inner (Pipeline.entry 0)) ())) Φ := by
  have h := Pipeline.RegionSeg.wp (pcfgs (F := F)) adm (pdats (tcBufs (V2 m g)) (8 * 1)) none cellOf_inj EP defs₀ 𝒱₀ (K (F := F)).L (K (F := F)).lev (regm m g) d none
    (fun u hu => absurd hu (by simp)) (fun x => .ret x) Φ
  have h' : (iprop(boundary (SparseCore.T d) ∗ unscopedBufs d (tcBufs (V2 m g) d) ∗ owesB (F := F) (8 * 1) d ∗ levAts (K (F := F)).L (K (F := F)).lev ∗ G (F := F) d
        ∗ ((boundary (SparseCore.T d) ∗ unscopedBufs d (tcBufs (V3 m g) d) ∗ owesB (F := F) (8 * 1) d) -∗ Φ ⟨⟩)) : sProp 𝕄)
      ⊢ wp frame (wpE (D (F := F)) 𝒱 (SparseCore.T d) none) Set.univ regionProg Φ := by
    iintro ⟨Hb, Hbufs, HO, Hlev, ⟨Hg, Ht⟩, Hk⟩
    iapply h
    isplitl [Hk]
    · iintro ⟨Hb, Hpost⟩
      ihave Hpost := (Entails.of_eq (regm_post m g d)) $$ Hpost
      icases Hpost with ⟨Hbufs, HO⟩
      rw [wp_ret]; imodintro
      iapply Hk
      isplitl [Hb]; · iexact Hb
      isplitl [Hbufs]; · iexact Hbufs
      iexact HO
    isplitl [Hb]; · iexact Hb
    isplitl [Hbufs HO]
    · rw [regm_pre]
      isplitl [Hbufs]; · iexact Hbufs
      iexact HO
    isplitl [Hlev]; · iexact Hlev
    isplitl [Hg]; · iexact Hg
    iexact Ht
  rw [region_eq]
  exact h'.trans ((K (F := F)).wp_liftProg (D (F := F)) 𝒱 (SparseCore.T d) Set.univ none _ Φ)

theorem hmain [∀ e, Nonempty (Elt F e)] (hR : Ranks m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hy, Ho, H1, H2, H3⟩, Hts, -⟩, HG⟩
  iapply ((K (F := F)).wp_run (D (F := F)) 𝒱 (EH := EH) (P := P m) κ d 0) $$ [Hst Hx Hy Ho H1 H2 H3 Hb Hts HG]
  isplitr; · iexact Hctx
  isplitl [Hst]; · iexact Hst
  isplitl [Hx Hy Ho]
  · rw [st0_eq]
    iapply (deal m d)
    isplitl [Hx]; · iexact Hx
    isplitl [Hy]; · iexact Hy
    iexact Ho
  iintro ⟨Hst, Hdn⟩
  ihave Hdn := (Entails.of_eq (dn0_eq m d)) $$ Hdn
  ihave Hdn := (gather m hR d) $$ Hdn
  icases Hdn with ⟨Hx, Hy, %g, %hg, Ho⟩
  ihave Hbufs := (Entails.of_eq ((bufs_V1 m g d).trans (Pipeline.unscopedBufs_held (Ix := HIx 1) (Name := ℕ) (U := UU) (Lvl := ℕ) d (V1 m g d)))) $$ [Hx Hy Ho H1 H2 H3]
  · isplitl [Hx]; · iexact Hx
    isplitl [Hy]; · iexact Hy
    isplitl [Ho]; · iexact Ho
    isplitl [H1]; · iexact H1
    isplitl [H2]; · iexact H2
    iexact H3
  iapply (StableHlo.wp_hlo_within (𝒱) (SparseCore.T d) none Set.univ (Pipeline.sub_ucRefs (op1 (F := F)) (StableHlo.reshape_bufs_sub _ _ _ _ _ _)) (V := V1 m g d)) $$ [Hb Hbufs]
  · isplitl [Hb] <;> iassumption
  iintro ⟨Hb, Hbufs⟩
  rw [wp_ret]; imodintro
  ihave Hbufs := (Entails.of_eq (bufs_V2 m g d)) $$ Hbufs
  ihave Hst := (Entails.of_eq (tcSt_one (F := F) d)) $$ Hst
  icases Hst with ⟨HO, Hst⟩
  ihave #Hlev := ((K (F := F)).ctx_levAts (EH := EH) (P := P m) κ) $$ Hctx
  iapply (region_run m g d _) $$ [Hb Hbufs HO HG Hst Hts]
  isplitl [Hb]; · iexact Hb
  isplitl [Hbufs]; · iexact Hbufs
  isplitl [HO]; · iexact HO
  isplitr; · iexact Hlev
  isplitl [HG]; · iexact HG
  iintro ⟨Hb, Hbufs, HO⟩
  ihave Hst := (Entails.of_eq (tcSt_one (F := F) d).symm) $$ [HO Hst]
  · isplitl [HO] <;> iassumption
  ihave Hbufs := (Entails.of_eq (Pipeline.unscopedBufs_held (Ix := HIx 1) (Name := ℕ) (U := UU) (Lvl := ℕ) d (V3 m g d))) $$ Hbufs
  iapply (StableHlo.wp_hlo_within (𝒱) (SparseCore.T d) none Set.univ (Pipeline.sub_ucRefs (op2 (F := F)) (StableHlo.reshape_bufs_sub _ _ _ _ _ _)) (V := V3 m g d)) $$ [Hb Hbufs]
  · isplitl [Hb] <;> iassumption
  iintro ⟨Hb, Hbufs⟩
  rw [wp_ret]; imodintro
  ihave Hbufs := (Entails.of_eq (bufs_V4 m g d)) $$ Hbufs
  imodintro
  isplitl [Hst]; · iexact Hst
  isplitl [Hbufs]
  · iexists g
    isplitr; · ipureintro; exact hg
    iexact Hbufs
  isplitl [Hb] <;> iassumption

/-! ## The end -/

/-- What a final memory holds on device `d`. -/
def fq (d : Dev nD) (s' : Phys nD τ sig (Elt F)) : Prop :=
  s'.mem.mem (xLoc d) = m (xLoc d) ∧ s'.mem.mem (yLoc d) = m (yLoc d)
    ∧ ∃ g : FVec F S262144 .f32, AllPlaced (m (xLoc d)) (m (yLoc d)) g ∧ s'.mem.mem ((SparseCore.T d).loc main_v3) = outVal g

theorem hfin (d : Dev nD) (s' : Phys nD τ sig (Elt F)) : iprop(FIN m d ∗ SI s') ⊢ (⌜fq m d s'⌝ : sProp 𝕄) := by
  iintro ⟨⟨%g, %hg, Hbufs⟩, HSI⟩
  ihave Hbufs := (Entails.of_eq (unscopedBufs_eq d (tcBufs (V4 m g) d))) $$ Hbufs
  icases Hbufs with ⟨Hx, Hy, -, -, -, Ho⟩
  ihave H := (persistent_entails_right (SI_pointsTo_agree (st := s') (ℓ := xLoc d) (I := Finset.univ) (q := fullShare) (f := tcBufs (V4 m g) d main_arg0))) $$ [HSI Hx]
  · isplitl [HSI] <;> iassumption
  icases H with ⟨%hx, HSI, -⟩
  ihave H := (persistent_entails_right (SI_pointsTo_agree (st := s') (ℓ := yLoc d) (I := Finset.univ) (q := fullShare) (f := tcBufs (V4 m g) d main_arg1))) $$ [HSI Hy]
  · isplitl [HSI] <;> iassumption
  icases H with ⟨%hy, HSI, -⟩
  ihave H := (SI_pointsTo_agree (st := s') (ℓ := (SparseCore.T d).loc main_v3) (I := Finset.univ) (q := fullShare) (f := tcBufs (V4 m g) d main_v3)) $$ [HSI Ho]
  · isplitl [HSI] <;> iassumption
  icases H with %ho
  ipureintro
  exact ⟨(funext fun i => hx i (Finset.mem_univ i)).trans (V4_arg0 m g d), (funext fun i => hy i (Finset.mem_univ i)).trans (V4_arg1 m g d),
    g, hg, (funext fun i => ho i (Finset.mem_univ i)).trans (V4_out m g d)⟩

/-- What every run of the program ends with. -/
def QC : PUnit × MemSt nD τ sig (Elt F) → Prop := fun r =>
  (∀ c : Dev nD, r.2.mem (xLoc c) = m (xLoc c) ∧ r.2.mem (yLoc c) = m (yLoc c)
    ∧ ∃ g : FVec F S262144 .f32, AllPlaced (m (xLoc c)) (m (yLoc c)) g ∧ r.2.mem ((SparseCore.T c).loc main_v3) = outVal g)
  ∧ r.2.sem = fun _ => 0

theorem run_main [∀ e, Nonempty (Elt F e)] (hR : Ranks m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hR facts)
    (fun q _ => match q with | 0 => SparseCore.Cfg.VecSplit.of_plain (vecSplit m))
    m ρ main (G (F := F)) (FIN m) (u₀ (F := F)) (sep_elim_left.trans (hu₀ m)) (hmain m ρ hR) (fq m) (hfin m) (QC m) (fun _ h hz => ⟨h, hz⟩)

end Cert.Proof.Sc
-- ==== Proof.Frames.lean ====
/-
  What the precondition `ranks_in_row` says of a row, and the frames: every run ends, the arguments unchanged and every semaphore at zero.
-/
module

public import proofs.«01_k».proof.Defs
public import proofs.«01_k».proof.Proof.Main
public import proofs.«01_k».proof.Proof.Gen.Kernel
public import proofs.«01_k».proof.Proof.Gen.Kernel.Skeleton
public import proofs.«01_k».proof.Proof.Gen.ReferenceIdeal.Run

@[expose] public section

noncomputable section

namespace Cert.Proof.Frames

open Idealize.ShloMosaic Idealize.ShloMosaic.TcCoe Idealize.SL.Sem
open Cert.Proof.Sc Cert.Proof.Placed

instance ranksFacts : Cert.Pre_ranks_in_row.Facts where
  bcast_S_S1024x200 := by decide

theorem andi_ofBool (p q : Bool) : IntOp.andi (BitVec.ofBool p) (BitVec.ofBool q) = BitVec.ofBool (p && q) := by
  cases p <;> cases q <;> decide
theorem ori_ofBool (p q : Bool) : IntOp.ori (BitVec.ofBool p) (BitVec.ofBool q) = BitVec.ofBool (p || q) := by
  cases p <;> cases q <;> decide
theorem ofBool_eq_one (p : Bool) : (BitVec.ofBool p = 1#1) ↔ p = true := by cases p <;> decide
theorem andi_eq_one (a b : BitVec 1) : IntOp.andi a b = 1#1 ↔ a = 1#1 ∧ b = 1#1 := by revert a b; decide
theorem ori_eq_one (a b : BitVec 1) : IntOp.ori a b = 1#1 ↔ a = 1#1 ∨ b = 1#1 := by revert a b; decide

theorem range_of (v : BitVec 32) (e : IntOp.andi (IntOp.cmpi .sge v 1#32) (IntOp.cmpi .sle v 200#32) = 1#1) : 1 ≤ v.toNat ∧ v.toNat ≤ 200 := by
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

variable {F : FTy → Type} [FloatOps F]

theorem inRange_of_ranks (x : FVec F KernelIdeal.S1024x200 .f32) (y : IVec KernelIdeal.S1024x200 32)
    (h : Cert.Pre_ranks_in_row.fn x y = fun _ => 1#1) : InRange (odN y) := fun b k =>
  range_of _ (congrFun h (ValueIdx.ix2 (Fin.ofNat 1024 b) (Fin.ofNat 200 k)))

/-! ## The frames -/

theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d => inRange_of_ranks _ _ (hpre d))

/-- The program as printed and the one read over extended reals have the same tables of kernels. -/
theorem defs₀_eq : Cert.Kernel.defs₀ (F := Bits) = Cert.KernelIdeal.defs₀ := by
  funext pr l a
  rcases l with ⟨l, hl⟩
  cases pr <;> rcases l with _ | _ | l <;> first | rfl | exact absurd hl (by omega)

theorem defs_eq : Cert.Kernel.defs (F := Bits) = Cert.KernelIdeal.defs := by
  unfold Cert.Kernel.defs Cert.KernelIdeal.defs
  rw [defs₀_eq]
  rfl

theorem frame_kernel : Cert.quiescent_Kernel := fun m ρ hpre => by
  rw [defs_eq]
  exact (θ_run Cert.KernelIdeal.defs _ _).mono (fun _ h => ⟨fun c => ⟨(h.1 c).1, (h.1 c).2.1⟩, h.2⟩)
    (run_main (F := Bits) m ρ fun d => inRange_of_ranks _ _ (hpre d))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Proof.Frames

end
-- ==== Proof.Ranked.lean ====
/-
  What the precondition `ranked` says of a row, and the frames under it.
-/
module

public import proofs.«01_k».proof.Proof.Frames

@[expose] public section

noncomputable section

namespace Cert.Proof.Frames

open Idealize.ShloMosaic Idealize.ShloMosaic.TcCoe Idealize.SL.Sem
open Cert.Proof.Sc Cert.Proof.Placed

instance rankedFacts : Cert.Pre_ranked.Facts where
  bcast_S_S1024x200 := by decide
  bcast_S1024x200_S1024x200x1_0_1 := by decide
  bcast_S1024x200_S1024x1x200_0_2 := by decide
  bcast_S1024x200x1_S1024x200x200_0_1_2 := by decide
  bcast_S1024x1x200_S1024x200x200_0_1_2 := by decide

variable {F : FTy → Type} [FloatOps F]

/-- A row's value at place `i`, repeated along the last axis. -/
theorem bcCol {α : Type} (h₁ : (⟨2, ![1024, 200]⟩ : Shape).BroadcastsInDim ⟨3, ![1024, 200, 1]⟩ ![0, 1])
    (h₂ : (⟨3, ![1024, 200, 1]⟩ : Shape).BroadcastsInDim ⟨3, ![1024, 200, 200]⟩ ![0, 1, 2]) (v : (⟨2, ![1024, 200]⟩ : Shape).Idx → α)
    (b : Fin 1024) (i j : Fin 200) :
    broadcastInDim ⟨3, ![1024, 200, 200]⟩ ![0, 1, 2] h₂ (broadcastInDim ⟨3, ![1024, 200, 1]⟩ ![0, 1] h₁ v) (ValueIdx.ix3 b i j) = v (ValueIdx.ix2 b i) := by
  refine (broadcastInDim_apply _ h₂ _ _ (ValueIdx.ix3 b i (0 : Fin 1)) fun a => ?_).trans (broadcastInDim_apply _ h₁ v _ _ fun a => ?_)
  · fin_cases a <;> rfl
  · fin_cases a <;> rfl

/-- A row's value at place `j`, repeated along the middle axis. -/
theorem bcRow {α : Type} (h₁ : (⟨2, ![1024, 200]⟩ : Shape).BroadcastsInDim ⟨3, ![1024, 1, 200]⟩ ![0, 2])
    (h₂ : (⟨3, ![1024, 1, 200]⟩ : Shape).BroadcastsInDim ⟨3, ![1024, 200, 200]⟩ ![0, 1, 2]) (v : (⟨2, ![1024, 200]⟩ : Shape).Idx → α)
    (b : Fin 1024) (i j : Fin 200) :
    broadcastInDim ⟨3, ![1024, 200, 200]⟩ ![0, 1, 2] h₂ (broadcastInDim ⟨3, ![1024, 1, 200]⟩ ![0, 2] h₁ v) (ValueIdx.ix3 b i j) = v (ValueIdx.ix2 b j) := by
  refine (broadcastInDim_apply _ h₂ _ _ (ValueIdx.ix3 b (0 : Fin 1) j) fun a => ?_).trans (broadcastInDim_apply _ h₁ v _ _ fun a => ?_)
  · fin_cases a <;> rfl
  · fin_cases a <;> rfl

/-- What `ranked` says at the places `i`, `j` of row `b`. -/
theorem ranked_at (x : FVec F KernelIdeal.S1024x200 .f32) (y : IVec KernelIdeal.S1024x200 32)
    (h : Cert.Pre_ranked.fn x y = fun _ => 1#1) (b : Fin 1024) (i j : Fin 200) :
    (IntOp.andi (IntOp.cmpi .sge (y (ValueIdx.ix2 b i)) 1#32) (IntOp.cmpi .sle (y (ValueIdx.ix2 b i)) 200#32) = 1#1
      ∧ FloatOps.cmpf .olt (FloatOps.hostAbsf (x (ValueIdx.ix2 b i))) (FloatOps.ofBits .f32 0x7F800000#32 : F .f32) = 1#1)
    ∧ (IntOp.cmpi .eq (BitVec.ofNat 32 i.val) (BitVec.ofNat 32 j.val) = 1#1 ∨ IntOp.cmpi .ne (y (ValueIdx.ix2 b i)) (y (ValueIdx.ix2 b j)) = 1#1) := by
  have e := congrFun h (ValueIdx.ix3 b i j)
  have e1 := (andi_eq_one _ _).mp e
  refine ⟨(andi_eq_one _ _).mp ?_, (ori_eq_one _ _).mp ?_⟩
  · exact (bcCol _ _ _ b i j).symm.trans e1.1
  · have e2 := e1.2
    unfold ori cmpi at e2
    rw [bcCol, bcRow] at e2
    exact e2

theorem inRange_of_ranked (x : FVec F KernelIdeal.S1024x200 .f32) (y : IVec KernelIdeal.S1024x200 32)
    (h : Cert.Pre_ranked.fn x y = fun _ => 1#1) : InRange (odN y) := fun b k =>
  range_of _ (ranked_at x y h (Fin.ofNat 1024 b) (Fin.ofNat 200 k) 0).1.1

theorem distinct_of_ranked (x : FVec F KernelIdeal.S1024x200 .f32) (y : IVec KernelIdeal.S1024x200 32)
    (h : Cert.Pre_ranked.fn x y = fun _ => 1#1) (b : Fin 1024) (i j : Fin 200) (hij : i ≠ j) : y (ValueIdx.ix2 b i) ≠ y (ValueIdx.ix2 b j) := by
  rcases (ranked_at x y h b i j).2 with e | e
  · simp only [IntOp.cmpi, ofBool_eq_one, beq_iff_eq] at e
    have e' := congrArg BitVec.toNat e
    simp only [BitVec.toNat_ofNat] at e'
    exact absurd (Fin.ext (by omega)) hij
  · simpa only [IntOp.cmpi, ofBool_eq_one, bne_iff_ne] using e

theorem frame_ideal_ranked : Cert.quiescent_KernelIdeal_pre_ranked := fun m ρ hpre =>
  (θ_run Cert.KernelIdeal.defs _ _).mono (fun _ h => ⟨fun c => ⟨(h.1 c).1, (h.1 c).2.1⟩, h.2⟩)
    (run_main (F := Ideal) m ρ fun d => inRange_of_ranked _ _ (hpre d))

theorem frame_reference_ranked : Cert.quiescent_ReferenceIdeal_pre_ranked := fun m ρ _ => frame_reference m ρ trivial

end Cert.Proof.Frames

end
-- ==== Proof.Loss.lean ====
/-
  The loss as real mathematics, and the few facts on extended reals with which both programs' values are read as it.
-/
module

public import Idealize.ShloMosaic.PureOps.Ideal.Laws
public import Idealize.ShloMosaic.Lib.IdealHost

@[expose] public section

noncomputable section

namespace Cert.Proof.Loss

open Idealize.ShloMosaic
open scoped BigOperators

/-! ## The loss -/

/-- The sum of the exponentials of what is left at rank `n` of a row whose scores, by rank, are `a`, each score less `c`. -/
def tail (a : Fin 200 → ℝ) (c : ℝ) (n : ℕ) : ℝ := ∑ k : Fin 200, if n ≤ k.val then Real.exp (a k - c) else 0

/-- The log of the sum of the exponentials of what is left at rank `n`. -/
def lse (a : Fin 200 → ℝ) (n : ℕ) : ℝ := Real.log (tail a 0 n)

/-- The mean over all rows and ranks of the negative log probability that a rank's item is chosen among those left. -/
def loss (a : Fin 1024 → Fin 200 → ℝ) : ℝ := (∑ b, ∑ n : Fin 200, (lse (a b) n - a b n)) / 204800

theorem tail_pos (a : Fin 200 → ℝ) (c : ℝ) (n : ℕ) (hn : n < 200) : 0 < tail a c n := by
  refine Finset.sum_pos' (fun k _ => ?_) ⟨⟨n, hn⟩, Finset.mem_univ _, ?_⟩
  · split
    · exact (Real.exp_pos _).le
    · exact le_rfl
  · rw [if_pos le_rfl]; exact Real.exp_pos _

theorem tail_shift (a : Fin 200 → ℝ) (c : ℝ) (n : ℕ) : tail a c n = tail a 0 n * Real.exp (-c) := by
  unfold tail
  rw [Finset.sum_mul]
  refine Finset.sum_congr rfl fun k _ => ?_
  split
  · rw [← Real.exp_add]; congr 1; ring
  · rw [zero_mul]

/-- A number taken from every score and added to the log again changes nothing. -/
theorem log_tail_add (a : Fin 200 → ℝ) (c : ℝ) (n : ℕ) (hn : n < 200) : Real.log (tail a c n) + c = lse a n := by
  rw [tail_shift, Real.log_mul (tail_pos a 0 n hn).ne' (Real.exp_pos _).ne', Real.log_exp, lse]; ring

/-- The loss with its two sums apart, as the kernel takes them. -/
theorem loss_eq (a : Fin 1024 → Fin 200 → ℝ) :
    loss a = ((∑ b, ∑ n : Fin 200, lse (a b) n) - ∑ b, ∑ n : Fin 200, a b n) / 204800 := by
  unfold loss
  simp only [Finset.sum_sub_distrib]

/-! ## A row of two halves of 128 lanes, and rows in pairs -/

/-- What vanishes from 200 on, summed over two stretches of 128, is its sum below 200. -/
theorem halves (g : ℕ → ℝ) (h : ∀ n, 200 ≤ n → g n = 0) :
    (∑ l : Fin 128, g l.val) + ∑ l : Fin 128, g (128 + l.val) = ∑ n : Fin 200, g n.val := by
  rw [Fin.sum_univ_eq_sum_range g 128, Fin.sum_univ_eq_sum_range (fun l => g (128 + l)) 128, Fin.sum_univ_eq_sum_range g 200,
    ← Finset.sum_range_add, show 128 + 128 = 200 + 56 from rfl, Finset.sum_range_add,
    Finset.sum_eq_zero (s := Finset.range 56) (fun l _ => h _ (by omega)), add_zero]

/-- The row of two that holds half `h` of row `b`. -/
def row (b : Fin 1024) (h : Fin 2) : Fin 2048 := ⟨2 * b.val + h.val, by have := b.isLt; have := h.isLt; omega⟩

theorem sum_rows {M : Type} [AddCommMonoid M] (f : Fin 2048 → M) : ∑ r, f r = ∑ b, (f (row b 0) + f (row b 1)) := by
  rw [← Equiv.sum_comp (finProdFinEquiv (m := 1024) (n := 2)) f, Fintype.sum_prod_type]
  refine Finset.sum_congr rfl fun b _ => ?_
  rw [Fin.sum_univ_two]
  congr 2 <;> exact Fin.ext (by simp [row, finProdFinEquiv]; try omega)

/-! ## Extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem exp_coe (r : ℝ) : Ideal.exp (r : EReal) = ((Real.exp r : ℝ) : EReal) := rfl

theorem log_coe {r : ℝ} (h : 0 < r) : Ideal.log (r : EReal) = ((Real.log r : ℝ) : EReal) := if_neg (not_le.mpr h)

theorem bot_sub_coe (r : ℝ) : (⊥ : EReal) - (r : EReal) = ⊥ := EReal.bot_sub _

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- The greatest of values none of which is `⊤` and one of which is real, is real. -/
theorem fold_max_real {ι : Type} (s : Finset ι) (f : ι → EReal) (ht : ∀ i ∈ s, f i ≠ ⊤) (i : ι) (hi : i ∈ s) (hb : f i ≠ ⊥) :
    ∃ r : ℝ, s.fold max ⊥ f = (r : EReal) := by
  have h1 : s.fold max ⊥ f ≠ ⊤ :=
    ((Finset.fold_max_lt (c := (⊤ : EReal))).mpr ⟨bot_lt_top, fun j hj => lt_top_iff_ne_top.mpr (ht j hj)⟩).ne
  have h2 : s.fold max ⊥ f ≠ ⊥ := fun e => hb (le_bot_iff.mp (e ▸ (Finset.le_fold_max (f i)).mpr (.inr ⟨i, hi, le_rfl⟩)))
  exact ⟨_, (EReal.coe_toReal h1 h2).symm⟩

theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]

/-- The f32 pattern of the number of all scores. -/
theorem ofBits_count : Ideal.ofBits .f32 0x48480000#32 = ((204800 : ℝ) : EReal) := by
  simp [Ideal.ofBits, Ideal.ieee, -EReal.coe_mul]; norm_num

end Cert.Proof.Loss

end
-- ==== Proof.RefMask.lean ====
/-
  The reference's mask over extended reals: minus infinity is written in each item's row at the item's rank, and the running sum
  along the row spreads it to every later place. At `(b, i, j)` the mask is minus infinity when item `i` of row `b` has rank at
  most `j`, and zero otherwise.
-/
module

public import proofs.«01_k».proof.Proof.Gen.ReferenceIdeal.Run
public import proofs.«01_k».proof.Proof.Ranked
public import proofs.«01_k».proof.Proof.Loss
public import Idealize.ShloMosaic.Lib.Routing.OpsSet

@[expose] public section

noncomputable section

namespace Cert.Proof.RefMask

open Cert.ReferenceIdeal Cert.ReferenceIdeal.Gen Cert.Proof.Loss
open Idealize.ShloMosaic hiding ix1 ix2 ix3 eq_ix1 eq_ix2 eq_ix3 sum_idx2
open Idealize.ShloMosaic.ValueIdx
open Idealize.ShloMosaic.Routing (wrap_of_lt resultIdx?_ix2 scatter_set_hit scatter_set_miss)

/-! ## The running sum along a row -/

theorem fold_zero {ι : Type} (l : List ι) (v : ι → EReal) (hv : ∀ n ∈ l, v n = 0) (r : EReal) : l.foldl (fun r n => r + v n) r = r := by
  induction l generalizing r with
  | nil => rfl
  | cons n l ih =>
    rw [List.foldl_cons, hv n List.mem_cons_self, add_zero]
    exact ih (fun k hk => hv k (List.mem_cons_of_mem n hk)) r

theorem fold_from_bot {ι : Type} (l : List ι) (v : ι → EReal) : l.foldl (fun r n => r + v n) ⊥ = ⊥ := by
  induction l with
  | nil => rfl
  | cons n l ih => rw [List.foldl_cons, EReal.bot_add, ih]

theorem fold_bot {ι : Type} (l : List ι) (v : ι → EReal) (n : ι) (hn : n ∈ l) (hv : v n = ⊥) (r : EReal) :
    l.foldl (fun r n => r + v n) r = ⊥ := by
  induction l generalizing r with
  | nil => simp at hn
  | cons k l ih =>
    rw [List.foldl_cons]
    rcases List.mem_cons.mp hn with rfl | h
    · rw [hv, EReal.add_bot, fold_from_bot]
    · exact ih h _

/-- The window's places, by row-major position. -/
def place (n : Fin (⟨2, ![1, 201]⟩ : Shape).numel) (a : Fin 2) : Nat := ((⟨2, ![1, 201]⟩ : Shape).rowMajor.symm n a).val

theorem place_zero (n : Fin (⟨2, ![1, 201]⟩ : Shape).numel) : place n 0 = 0 :=
  congrArg (fun i : (⟨2, ![1, 201]⟩ : Shape).Idx => (i 0).val) (Routing.symm2 (N := 201) n)

theorem place_one (n : Fin (⟨2, ![1, 201]⟩ : Shape).numel) : place n 1 = n.val :=
  congrArg (fun i : (⟨2, ![1, 201]⟩ : Shape).Idx => (i 1).val) (Routing.symm2 (N := 201) n)

theorem window_numel : (⟨2, ![1, 201]⟩ : Shape).numel = 201 := rfl

/-- A row that is zero but for minus infinity at `q`: its running sum is minus infinity from `q` on, zero before. -/
theorem scan_row (X : FVec Ideal S204800x201 .f32) (init : FVec Ideal S_ .f32) (hinit : ∀ i, init i = 0) (r : Fin 204800) (q : Fin 201)
    (hq : X (ix2 r q) = ⊥) (hz : ∀ k, k ≠ q → X (ix2 r k) = 0) (j : Fin 201) :
    Host.reduceWindowAdd ![1, 201] ![1, 1] ![0, 200] ![0, 0] X init reduceWindows_S204800x201_S204800x201_w1s1p0_0_w201s1p200_0 h_S_ (ix2 r j)
      = if q.val ≤ j.val then ⊥ else 0 := by
  unfold Host.reduceWindowAdd
  rw [Ideal.hostReduceWindowAdd_def, hinit]
  unfold Ideal.hostReduceWindowAdd Host.reduceWindow
  have hj := j.isLt
  have hr := r.isLt
  split_ifs with hle
  · have hq' := q.isLt
    obtain ⟨n, hn⟩ : ∃ n : Fin (⟨2, ![1, 201]⟩ : Shape).numel, n.val = q.val + 200 - j.val :=
      ⟨⟨q.val + 200 - j.val, by rw [window_numel]; omega⟩, rfl⟩
    have h0 := place_zero n
    have h1 := place_one n
    refine fold_bot _ _ n (List.mem_finRange _) ?_ _
    dsimp only
    rw [dif_pos]
    · refine (congrArg X (funext fun a => Fin.ext ?_)).trans hq
      match a with
      | ⟨0, _⟩ => show r.val * 1 + place n 0 - 0 = r.val; omega
      | ⟨1, _⟩ => show j.val * 1 + place n 1 - 200 = q.val; omega
    · intro a
      match a with
      | ⟨0, _⟩ => show 0 ≤ r.val * 1 + place n 0 ∧ r.val * 1 + place n 0 - 0 < 204800; omega
      | ⟨1, _⟩ => show 200 ≤ j.val * 1 + place n 1 ∧ j.val * 1 + place n 1 - 200 < 201; omega
  · refine fold_zero _ _ (fun n _ => ?_) _
    have h0 := place_zero n
    have h1 := place_one n
    have hn : n.val < 201 := n.isLt
    dsimp only
    split
    · next h =>
      have hb := h 1
      change 200 ≤ j.val * 1 + place n 1 ∧ j.val * 1 + place n 1 - 200 < 201 at hb
      refine (congrArg X (funext fun a => Fin.ext ?_)).trans (hz ⟨j.val + n.val - 200, by omega⟩ fun e => ?_)
      · match a with
        | ⟨0, _⟩ => show r.val * 1 + place n 0 - 0 = r.val; omega
        | ⟨1, _⟩ => show j.val * 1 + place n 1 - 200 = j.val + n.val - 200; omega
      · have := congrArg Fin.val e
        change j.val + n.val - 200 = q.val at this
        omega
    · rfl

/-! ## The scatter -/

/-- The place an update lands at: its two index words. -/
theorem lands (idx : IVec S204800x2 32) (n : Fin 204800) (r : Fin 204800) (q : Fin 201) :
    (scatter_S204800x201_S204800x2_S204800_n_01_01_1).resultIdx? (ix1 n) idx = some (ix2 r q)
      ↔ (idx (ix2 n (0 : Fin 2))).toInt = r.val ∧ (idx (ix2 n (1 : Fin 2))).toInt = q.val := by
  have hw : ∀ a : Fin 2, (scatter_S204800x201_S204800x2_S204800_n_01_01_1).window (ix1 n) a = 0 := fun a => by
    unfold ScatterDims.window
    rw [dif_neg fun h => (of_decide_eq_true (List.mem_filter.1 h).2) (by
      show a ∈ [(0 : Fin 2), 1]
      fin_cases a <;> simp)]
  have hs : ∀ a : Fin 2, (scatter_S204800x201_S204800x2_S204800_n_01_01_1).start (ix1 n) idx a = (idx (ix2 n a)).toInt := fun a => by
    unfold ScatterDims.start
    rw [dif_pos (show a ∈ (scatter_S204800x201_S204800x2_S204800_n_01_01_1).scatterDimsToOperandDims from by
      show a ∈ [(0 : Fin 2), 1]
      fin_cases a <;> simp)]
    refine congrArg (fun k => (idx k).toInt) (funext fun b => Fin.ext ?_)
    rcases (by omega : a = 0 ∨ a = 1) with rfl | rfl
    · match b with
      | ⟨0, _⟩ => rfl
      | ⟨1, _⟩ => rfl
    · match b with
      | ⟨0, _⟩ => rfl
      | ⟨1, _⟩ => rfl
  rw [show (some (ix2 r q)) = some (ix2 (n0 := 204800) (n1 := 201) r q) from rfl, resultIdx?_ix2, hw, hw, hs, hs]
  simp

/-- An index word with its wrap. -/
def wrapped (v : IVec S204800 32) (n : BitVec 32) : IVec S204800 32 :=
  select (cmpi .slt v (broadcastInDim S204800 ![] bcast_S_S204800 (constantI S_ 32 0#32)))
    (addi v (broadcastInDim S204800 ![] bcast_S_S204800 (constantI S_ 32 n))) v

theorem wrapped_apply (v : IVec S204800 32) (n : BitVec 32) (i : S204800.Idx) (h : (v i).toNat < 2 ^ 31) : wrapped v n i = v i := by
  unfold wrapped
  exact wrap_of_lt (v i) _ h

/-- The index words: row `b * 200 + i`, and that item's rank. -/
def words (y : IVec S1024x200 32) : IVec S204800x2 32 :=
  concatenate S204800x2 1
    [⟨S204800x1, broadcastInDim S204800x1 ![0] bcast_S204800_S204800x1_0 (wrapped (iotaInDim S204800 32 0) 204800#32)⟩,
      ⟨S204800x1, broadcastInDim S204800x1 ![0] bcast_S204800_S204800x1_0 (wrapped (shapeCast S204800 y shapeCasts_S1024x200_S204800) 201#32)⟩]
    concatenates_S204800x1_S204800x1_S204800x2_d1

/-- The flat place of item `i` of row `b`. -/
def flat (b : Fin 1024) (i : Fin 200) : Fin 204800 := ⟨b.val * 200 + i.val, by omega⟩

theorem col_apply (v : IVec S204800 32) (n : Fin 204800) :
    broadcastInDim S204800x1 ![0] bcast_S204800_S204800x1_0 v (ix2 n (0 : Fin 1)) = v (ix1 n) :=
  broadcastInDim_apply _ _ v _ _ fun a => by
    match a with
    | ⟨0, _⟩ => rfl

theorem flat_apply (y : IVec S1024x200 32) (b : Fin 1024) (i : Fin 200) :
    shapeCast S204800 y shapeCasts_S1024x200_S204800 (ix1 (flat b i)) = y (ix2 b i) :=
  shapeCast_apply y _ _ _ (by rw [Shape.rowMajor_val_two, Shape.rowMajor_val_one]; rfl)

theorem flat_surj (n : Fin 204800) : ∃ b i, n = flat b i :=
  ⟨⟨n.val / 200, by omega⟩, ⟨n.val % 200, by omega⟩, Fin.ext (by show n.val = n.val / 200 * 200 + n.val % 200; omega)⟩

theorem words_zero (y : IVec S1024x200 32) (n : Fin 204800) : (words y (ix2 n (0 : Fin 2))).toInt = n.val := by
  have hn := n.isLt
  have e : words y (ix2 n (0 : Fin 2)) = BitVec.ofNat 32 n.val := by
    unfold words
    refine (concatenate_pair_apply_left (t := S204800x2) (s₁ := S204800x1) (s₂ := S204800x1) 1 _ _ _ (ix2 n (0 : Fin 2)) rfl (ix2 n (0 : Fin 1))
      (Fin.forall_fin_two.mpr ⟨rfl, rfl⟩)).trans ((col_apply _ n).trans ((wrapped_apply _ _ _ ?_).trans rfl))
    show (BitVec.ofNat 32 n.val).toNat < _
    rw [BitVec.toNat_ofNat]
    omega
  rw [e, BitVec.toInt_eq_toNat_of_lt (by rw [BitVec.toNat_ofNat]; omega), BitVec.toNat_ofNat, Nat.mod_eq_of_lt (by omega)]

theorem words_one (y : IVec S1024x200 32) (b : Fin 1024) (i : Fin 200) (h : (y (ix2 b i)).toNat < 2 ^ 31) :
    (words y (ix2 (flat b i) (1 : Fin 2))).toInt = (y (ix2 b i)).toNat := by
  have e : words y (ix2 (flat b i) (1 : Fin 2)) = y (ix2 b i) := by
    unfold words
    refine (concatenate_pair_apply_right (t := S204800x2) (s₁ := S204800x1) (s₂ := S204800x1) 1 _ _ _ (ix2 (flat b i) (1 : Fin 2)) rfl rfl
      (ix2 (flat b i) (0 : Fin 1)) (Fin.forall_fin_two.mpr ⟨fun _ => rfl, fun h => absurd rfl h⟩) rfl).trans
      ((col_apply _ _).trans ((wrapped_apply _ _ _ ?_).trans (flat_apply y b i)))
    rw [flat_apply]
    exact h
  rw [e, BitVec.toInt_eq_toNat_of_lt (by omega)]

/-- The table that holds minus infinity at each item's rank. -/
def marks (y : IVec S1024x200 32) : FVec Ideal S204800x201 .f32 :=
  Host.scatter scatter_S204800x201_S204800x2_S204800_n_01_01_1 (fun _ b => b)
    (broadcastInDim S204800x201 ![] bcast_S_S204800x201 (constant S_ .f32 0x00000000#32)) (words y)
    (broadcastInDim S204800 ![] bcast_S_S204800 (constant S_ .f32 0xFF800000#32))

variable (y : IVec S1024x200 32) (hy : ∀ b i, 1 ≤ (y (ix2 b i)).toNat ∧ (y (ix2 b i)).toNat ≤ 200)

include hy in
theorem marks_hit (b : Fin 1024) (i : Fin 200) (q : Fin 201) (hq : q.val = (y (ix2 b i)).toNat) : marks y (ix2 (flat b i) q) = ⊥ := by
  unfold marks
  have hb := hy b i
  refine scatter_set_hit _ _ _ _ _ _ (fun k _ => ?_) (ix1 (flat b i)) ?_
  · exact ofBits_neg_inf
  · rw [lands, words_zero, words_one y b i (by omega), hq]
    exact ⟨rfl, rfl⟩

include hy in
theorem marks_miss (b : Fin 1024) (i : Fin 200) (q : Fin 201) (hq : q.val ≠ (y (ix2 b i)).toNat) : marks y (ix2 (flat b i) q) = 0 := by
  unfold marks
  have hb := hy b i
  rw [scatter_set_miss]
  · exact Ideal.ofBits_zero_f32
  · intro k hk
    obtain ⟨n, rfl⟩ : ∃ n : Fin 204800, k = ix1 n := ⟨k 0, eq_ix1 k⟩
    rw [lands, words_zero] at hk
    have e : n = flat b i := Fin.ext (Int.ofNat_inj.mp hk.1)
    have h2 := hk.2
    rw [e, words_one y b i (by omega)] at h2
    exact hq (Int.ofNat_inj.mp h2.symm)

/-- The mask. -/
def mask (y : IVec S1024x200 32) : FVec Ideal S1024x200x200 .f32 :=
  shapeCast S1024x200x200 (extractStridedSlice S204800x200 ![0, 0]
    (Host.reduceWindowAdd ![1, 201] ![1, 1] ![0, 200] ![0, 0] (marks y) (broadcastInDim S_ ![] bcast_S_S_ (constant S_ .f32 0x00000000#32))
      reduceWindows_S204800x201_S204800x201_w1s1p0_0_w201s1p200_0 h_S_) slices_S204800x201_S204800x200_0_0) shapeCasts_S204800x200_S1024x200x200

include hy in
theorem mask_apply (b : Fin 1024) (i j : Fin 200) : mask y (ix3 b i j) = if (y (ix2 b i)).toNat ≤ j.val then ⊥ else 0 := by
  have hb := hy b i
  have hj := j.isLt
  unfold mask
  refine (shapeCast_apply _ _ _ (ix2 (flat b i) j) ?_).trans ((extractStridedSlice_apply _ _ _ _ (ix2 (flat b i) (⟨j.val, by omega⟩ : Fin 201))
    (Fin.forall_fin_two.mpr ⟨?_, ?_⟩)).trans ((scan_row (marks y) _ (fun _ => Ideal.ofBits_zero_f32) (flat b i) ⟨(y (ix2 b i)).toNat, by omega⟩
      (marks_hit y hy b i _ rfl) (fun k hk => marks_miss y hy b i k fun e => hk (Fin.ext e)) ⟨j.val, by omega⟩)))
  · rw [Shape.rowMajor_val_two, Shape.rowMajor_val_three]
    rfl
  · show (flat b i).val = 0 + (flat b i).val
    omega
  · show j.val = 0 + j.val
    omega

end Cert.Proof.RefMask

end
-- ==== Proof.RefSort.lean ====
/-
  The reference's argsort: where each row of ranks is a permutation of 1 to 200, the place sorted into position `j` is the place
  whose rank is `j + 1`.
-/
module

public import proofs.«01_k».proof.Proof.RefMask
public import Idealize.ShloMosaic.Lib.SortFacts

@[expose] public section

noncomputable section

namespace Cert.Proof.RefSort

open Cert.ReferenceIdeal Cert.ReferenceIdeal.Gen Cert.Proof.Loss
open Idealize.ShloMosaic hiding ix1 ix2 ix3 eq_ix1 eq_ix2 eq_ix3 sum_idx2
open Idealize.ShloMosaic.ValueIdx

/-- A strictly monotone map of `Fin n` to itself moves nothing. -/
theorem strictMono_id {n : Nat} (f : Fin n → Fin n) (hf : StrictMono f) (j : Fin n) : f j = j := by
  have h : (hf.orderIsoOfSurjective f (Finite.injective_iff_surjective.mp hf.injective)) = OrderIso.refl (Fin n) := Subsingleton.elim _ _
  exact congrArg (fun e : Fin n ≃o Fin n => e j) h

/-- Sorting by a key that is a permutation finds, at `j`, the place whose key is `j`. -/
theorem sorted_perm {n : Nat} (R : Fin n → Fin n → Bool) (ρ : Fin n ≃ Fin n) (hR : ∀ a b, R a b = decide (ρ a < ρ b)) (j : Fin n) :
    sortedFrom R j = ρ.symm j := by
  have hm : StrictMono fun j => ρ (sortedFrom R j) := fun i k hik => by
    have h := sortedFrom_noInversion R R (fun a b h => by rw [hR] at h ⊢; simp only [decide_eq_true_eq, decide_eq_false_iff_not] at h ⊢; omega)
      (fun _ _ h => h) (fun a b c h h' => by rw [hR] at h h' ⊢; simp only [decide_eq_false_iff_not] at h h' ⊢; omega) i k hik
    rw [hR, decide_eq_false_iff_not] at h
    refine lt_of_le_of_ne (not_lt.mp h) fun e => ?_
    exact absurd (sortedFrom_injective R (ρ.injective e)) hik.ne
  rw [Equiv.eq_symm_apply]
  exact strictMono_id _ hm j

theorem along_row {A B : Nat} (b : Fin A) (j k : Fin B) : Shape.Idx.along (s := ⟨2, ![A, B]⟩) (ix2 b j) 1 k = ix2 b k := by
  funext a
  match a with
  | ⟨0, _⟩ => rfl
  | ⟨1, _⟩ => rfl

/-- The second of two tables sorted along their rows, at an index. -/
theorem sort2_row {A B : Nat} {α β : Type} (cmp : α × β → α × β → BitVec 1) (x : (⟨2, ![A, B]⟩ : Shape).Idx → α) (z : (⟨2, ![A, B]⟩ : Shape).Idx → β)
    (b : Fin A) (j : Fin B) :
    (Host.sort2 ⟨2, ![A, B]⟩ 1 cmp x z).2 (ix2 b j)
      = z (ix2 b (sortedFrom (fun k k' => cmp (x (ix2 b k), z (ix2 b k)) (x (ix2 b k'), z (ix2 b k')) == 1#1) j)) := by
  unfold Host.sort2
  rw [dif_pos (show 1 < 2 by decide)]
  let at' := fun k : Fin B => Shape.Idx.along (s := ⟨2, ![A, B]⟩) (ix2 b j) 1 k
  have e : at' = fun k => ix2 b k := funext (along_row b j)
  show z (at' (sortedFrom (fun k k' => cmp (x (at' k), z (at' k)) (x (at' k'), z (at' k')) == 1#1) j)) = _
  rw [e]

/-- The places of each row in the order of their ranks. -/
def picked (y : IVec S1024x200 32) : IVec S1024x200 32 :=
  (Host.sort2 S1024x200 1 comparator_i32_i32_d1 y (iotaInDim S1024x200 32 1)).2

variable (y : IVec S1024x200 32) (ρ : Fin 1024 → Fin 200 ≃ Fin 200) (hρ : ∀ b i, (y (ix2 b i)).toNat = (ρ b i).val + 1)

/-- The order the rows are sorted by. -/
def before (b : Fin 1024) (k k' : Fin 200) : Bool := IntOp.cmpi .slt (y (ix2 b k)) (y (ix2 b k')) == 1#1

include hρ in
theorem before_eq (b : Fin 1024) (k k' : Fin 200) : before y b k k' = decide (ρ b k < ρ b k') := by
  have hk := hρ b k
  have hk' := hρ b k'
  unfold before
  rw [WordCmp.cmpi_slt_of_lt (by omega) (by omega), hk, hk']
  by_cases h : ρ b k < ρ b k'
  · have h' : (ρ b k).val + 1 < (ρ b k').val + 1 := by omega
    simp [h]
  · have h' : ¬(ρ b k).val + 1 < (ρ b k').val + 1 := by omega
    simp [h]

include hρ in
theorem picked_apply (b : Fin 1024) (j : Fin 200) : picked y (ix2 b j) = BitVec.ofNat 32 ((ρ b).symm j).val := by
  unfold picked
  refine (sort2_row comparator_i32_i32_d1 y (iotaInDim S1024x200 32 1) b j).trans ?_
  show BitVec.ofNat 32 (sortedFrom (before y b) j).val = _
  rw [sorted_perm _ (ρ b) (before_eq y ρ hρ b)]

end Cert.Proof.RefSort

end
-- ==== Proof.RefPlaces.lean ====
/-
  The reference's gather along each row: the index words are the places picked by the argsort, all inside the row, and the element
  read is the one at that place.
-/
module

public import proofs.«01_k».proof.Proof.RefSort
public import Idealize.ShloMosaic.Lib.ReduceAll

@[expose] public section

noncomputable section

namespace Cert.Proof.RefPlaces

open Cert.ReferenceIdeal Cert.ReferenceIdeal.Gen Cert.Proof.RefSort
open Idealize.ShloMosaic hiding ix1 ix2 ix3 ix4 eq_ix1 eq_ix2 eq_ix3 eq_ix4 sum_idx2
open Idealize.ShloMosaic.ValueIdx
open Idealize.ShloMosaic.Routing (wrap_of_lt)

/-- The places picked, as index words with their wrap. -/
def places (y : IVec S1024x200 32) : IVec S1024x1x200x1 32 :=
  shapeCast S1024x1x200x1 (select (cmpi .slt (broadcastInDim S1024x1x200 ![0, 2] bcast_S1024x200_S1024x1x200_0_2 (picked y))
      (broadcastInDim S1024x1x200 ![] bcast_S_S1024x1x200 (constantI S_ 32 0#32)))
    (addi (broadcastInDim S1024x1x200 ![0, 2] bcast_S1024x200_S1024x1x200_0_2 (picked y)) (broadcastInDim S1024x1x200 ![] bcast_S_S1024x1x200 (constantI S_ 32 200#32)))
    (broadcastInDim S1024x1x200 ![0, 2] bcast_S1024x200_S1024x1x200_0_2 (picked y))) shapeCasts_S1024x1x200_S1024x1x200x1

/-- Which of the places lie in the row. -/
def inside (y : IVec S1024x200 32) : IVec S1024x1x200 1 :=
  Host.reduce IntOp.andi (andi (cmpi .sge (places y) (broadcastInDim S1024x1x200x1 ![] bcast_S_S1024x1x200x1 (constantI S_ 32 0#32)))
    (cmpi .sle (places y) (broadcastInDim S1024x1x200x1 ![0, 1, 2, 3] bcast_S1x1x1x1_S1024x1x200x1_0_1_2_3
      (broadcastInDim S1x1x1x1 ![3] bcast_S1_S1x1x1x1_3 (constantI S1 32 199#32))))) (constantI S_ 1 1#1) reducesTo_S1024x1x200x1_S1024x1x200_d3 h_S_

/-! ## The places -/

variable (y : IVec S1024x200 32) (ρ : Fin 1024 → Fin 200 ≃ Fin 200)
  (hρ : ∀ b i, (y (ix2 b i)).toNat = (ρ b i).val + 1)

include hρ in
theorem places_apply (b : Fin 1024) (j : Fin 200) :
    places y (ix4 b (0 : Fin 1) j (0 : Fin 1)) = BitVec.ofNat 32 ((ρ b).symm j).val := by
  have hp := picked_apply y ρ hρ b j
  have e : broadcastInDim S1024x1x200 ![0, 2] bcast_S1024x200_S1024x1x200_0_2 (picked y) (ix3 b (0 : Fin 1) j) = picked y (ix2 b j) :=
    broadcastInDim_apply _ _ _ _ _ fun a => by
      match a with
      | ⟨0, _⟩ => rfl
      | ⟨1, _⟩ => rfl
  unfold places
  refine (shapeCast_apply _ _ _ (ix3 b (0 : Fin 1) j) ?_).trans ((wrap_of_lt _ _ ?_).trans (e.trans hp))
  · rw [Shape.rowMajor_val_three, Shape.rowMajor_val_four]
    show (b.val * 1 + 0) * 200 + j.val = ((b.val * 1 + 0) * 200 + j.val) * 1 + 0
    omega
  · rw [e, hp, BitVec.toNat_ofNat]
    have := ((ρ b).symm j).isLt
    omega

include hρ in
theorem inside_apply (b : Fin 1024) (j : Fin 200) : inside y (ix3 b (0 : Fin 1) j) = 1#1 := by
  unfold inside
  refine Host.reduce_andi_one _ _ _ _ _ rfl fun i => ?_
  obtain ⟨b', c, j', d, rfl⟩ : ∃ (b' : Fin 1024) (c : Fin 1) (j' : Fin 200) (d : Fin 1), i = ix4 b' c j' d := ⟨i 0, i 1, i 2, i 3, eq_ix4 i⟩
  obtain rfl : c = 0 := Subsingleton.elim _ _
  obtain rfl : d = 0 := Subsingleton.elim _ _
  show IntOp.andi (IntOp.cmpi .sge (places y (ix4 b' (0 : Fin 1) j' (0 : Fin 1))) 0#32)
    (IntOp.cmpi .sle (places y (ix4 b' (0 : Fin 1) j' (0 : Fin 1))) 199#32) = 1#1
  rw [places_apply y ρ hρ]
  generalize (ρ b').symm j' = k
  revert k
  decide +kernel

/-- The gather's dimension numbers. -/
abbrev take : GatherDims S1024x200x200 S1024x1x200x1 S1024x1x200 := gather_S1024x200x200_S1024x1x200x1_S1024x1x200_n_1_02_02_1_3_111

theorem batching_zero : (0 : Fin 3) ∈ take.operandBatchingDims := by show (0 : Fin 3) ∈ [(0 : Fin 3), 2]; decide
theorem batching_two : (2 : Fin 3) ∈ take.operandBatchingDims := by show (2 : Fin 3) ∈ [(0 : Fin 3), 2]; decide
theorem not_batching : (1 : Fin 3) ∉ take.operandBatchingDims := by show (1 : Fin 3) ∉ [(0 : Fin 3), 2]; decide
theorem mapped : (1 : Fin 3) ∈ take.startIndexMap := by show (1 : Fin 3) ∈ [(1 : Fin 3)]; decide

/-- What the gather reads: the row `b` of its place's list, at the index word, brought into the row. -/
theorem gather_apply (L : FVec Ideal S1024x200x200 .f32) (I : IVec S1024x1x200x1 32) (b : Fin 1024) (j k : Fin 200)
    (hk : I (ix4 b (0 : Fin 1) j (0 : Fin 1)) = BitVec.ofNat 32 k.val) :
    Host.gather take L I (ix3 b (0 : Fin 1) j) = L (ix3 b k j) := by
  have hlt := k.isLt
  have ho : ∀ a, take.offCoord (ix3 b (0 : Fin 1) j) a = 0 := fun a =>
    GatherDims.offCoord_eq_zero _ _ _ fun h => by
      have := (GatherDims.mem_sKept _ _).mp h
      change a ∉ [(1 : Fin 3)] ∧ a ∉ [(0 : Fin 3), 2] at this
      revert a
      decide
  have h0 : take.start (ix3 b (0 : Fin 1) j) I (0 : Fin 3) + take.batchCoord (ix3 b (0 : Fin 1) j) (0 : Fin 3) + take.offCoord (ix3 b (0 : Fin 1) j) (0 : Fin 3) = b.val := by
    rw [ho, take.start_batching _ _ _ batching_zero]
    unfold GatherDims.batchCoord
    rw [dif_pos batching_zero]
    refine (Nat.add_zero _).trans ((Nat.zero_add _).trans ?_)
    rfl
  have h2 : take.start (ix3 b (0 : Fin 1) j) I (2 : Fin 3) + take.batchCoord (ix3 b (0 : Fin 1) j) (2 : Fin 3) + take.offCoord (ix3 b (0 : Fin 1) j) (2 : Fin 3) = j.val := by
    rw [ho, take.start_batching _ _ _ batching_two]
    unfold GatherDims.batchCoord
    rw [dif_pos batching_two]
    refine (Nat.add_zero _).trans ((Nat.zero_add _).trans ?_)
    rfl
  have hi : take.siIdx (ix3 b (0 : Fin 1) j) ⟨List.idxOf (1 : Fin 3) take.startIndexMap, List.idxOf_lt_length_iff.2 mapped⟩
      = ix4 b (0 : Fin 1) j (0 : Fin 1) := by
    funext a
    refine Fin.ext ?_
    match a with
    | ⟨0, _⟩ => rfl
    | ⟨1, _⟩ => rfl
    | ⟨2, _⟩ => rfl
    | ⟨3, _⟩ => rfl
  have hw : (BitVec.ofNat 32 k.val).toInt.toNat = k.val := by
    rw [BitVec.toInt_eq_toNat_of_lt (by rw [BitVec.toNat_ofNat]; omega), BitVec.toNat_ofNat, Nat.mod_eq_of_lt (by omega)]
    rfl
  have h1 : take.start (ix3 b (0 : Fin 1) j) I (1 : Fin 3) + take.batchCoord (ix3 b (0 : Fin 1) j) (1 : Fin 3) + take.offCoord (ix3 b (0 : Fin 1) j) (1 : Fin 3) = k.val := by
    rw [ho, take.batchCoord_eq_zero _ _ not_batching]
    unfold GatherDims.start
    rw [dif_pos mapped, hi, hk, hw]
    show min k.val 199 + 0 + 0 = k.val
    omega
  unfold Host.gather
  refine congrArg L (funext fun a => Fin.ext ?_)
  match a with
  | ⟨0, _⟩ => exact h0
  | ⟨1, _⟩ => exact h1
  | ⟨2, _⟩ => exact h2

end Cert.Proof.RefPlaces

end
-- ==== Proof.RefValue.lean ====
/-
  The value of the reference over extended reals: where the scores are real and each row of ranks is a permutation of 1 to 200,
  its result is the loss of the scores taken by rank.
-/
module

public import proofs.«01_k».proof.Proof.RefPlaces
public import Idealize.ShloMosaic.Lib.KernelVsHost

@[expose] public section

noncomputable section

namespace Cert.Proof.RefValue

open Cert.ReferenceIdeal Cert.ReferenceIdeal.Gen Cert.Proof.Loss Cert.Proof.RefMask Cert.Proof.RefSort Cert.Proof.RefPlaces
open Idealize.ShloMosaic hiding ix1 ix2 ix3 ix4 eq_ix1 eq_ix2 eq_ix3 eq_ix4 sum_idx2
open Idealize.ShloMosaic.ValueIdx
open Idealize.ShloMosaic.Routing (wrap_of_lt)
open scoped BigOperators

/-! ## The terms of the result, named -/

/-- The scores under the mask. -/
def masked (x : FVec Ideal S1024x200 .f32) (y : IVec S1024x200 32) : FVec Ideal S1024x200x200 .f32 :=
  addf (broadcastInDim S1024x200x200 ![0, 1, 2] bcast_S1024x200x1_S1024x200x200_0_1_2 (broadcastInDim S1024x200x1 ![0, 1] bcast_S1024x200_S1024x200x1_0_1 x)) (mask y)

/-- A table of rows repeated along the middle axis. -/
def spread (v : FVec Ideal S1024x200 .f32) : FVec Ideal S1024x1x200 .f32 := broadcastInDim S1024x1x200 ![0, 2] bcast_S1024x200_S1024x1x200_0_2 v

def widen (v : FVec Ideal S1024x1x200 .f32) : FVec Ideal S1024x200x200 .f32 :=
  broadcastInDim S1024x200x200 ![0, 1, 2] bcast_S1024x1x200_S1024x200x200_0_1_2 v

/-- The greatest score still in play at each place. -/
def peak (x : FVec Ideal S1024x200 .f32) (y : IVec S1024x200 32) : FVec Ideal S1024x200 .f32 :=
  maximumf (broadcastInDim S1024x200 ![] bcast_S_S1024x200 (constant S_ .f32 0xFF800000#32))
    (Host.reduce FloatOps.maximumf (masked x y) (constant S_ .f32 0xFF800000#32) reducesTo_S1024x200x200_S1024x200_d1 h_S_)

/-- The scores less the greatest. -/
def centred (x : FVec Ideal S1024x200 .f32) (y : IVec S1024x200 32) : FVec Ideal S1024x200x200 .f32 :=
  subf (masked x y) (widen (spread (peak x y)))

/-- The sum of the exponentials. -/
def mass (x : FVec Ideal S1024x200 .f32) (y : IVec S1024x200 32) : FVec Ideal S1024x200 .f32 :=
  Host.reduceAdd (Host.exp (centred x y)) (constant S_ .f32 0x00000000#32) reducesTo_S1024x200x200_S1024x200_d1 h_S_

/-- The logarithms of the probabilities. -/
def logp (x : FVec Ideal S1024x200 .f32) (y : IVec S1024x200 32) : FVec Ideal S1024x200x200 .f32 :=
  subf (centred x y) (widen (Host.log (spread (mass x y))))

/-- The logarithm of the probability of each place's own item. -/
def taken (x : FVec Ideal S1024x200 .f32) (y : IVec S1024x200 32) : FVec Ideal S1024x200 .f32 :=
  shapeCast S1024x200 (select (inside y)
    (Host.gather gather_S1024x200x200_S1024x1x200x1_S1024x1x200_n_1_02_02_1_3_111 (logp x y) (places y))
    (broadcastInDim S1024x1x200 ![] bcast_S_S1024x1x200 (constant S_ .f32 0x7FC00000#32))) shapeCasts_S1024x1x200_S1024x200

/-- The result. -/
def result (x : FVec Ideal S1024x200 .f32) (y : IVec S1024x200 32) : FVec Ideal S_ .f32 :=
  Host.negf (Host.divf (Host.reduceAdd (taken x y) (constant S_ .f32 0x00000000#32) reducesTo_S1024x200_S_d0_1 h_S_) (constant S_ .f32 0x48480000#32))

theorem res_eq (m : (ℓ : Loc nD τ sig) → Buf (Elt Ideal) ℓ) (c : Dev nD) :
    Cert.ReferenceIdeal.Value.res_main_v31 (F := Ideal) m c
      = result (m ((c.tc : Thread nD τ).loc main_arg0)) (m ((c.tc : Thread nD τ).loc main_arg1)) := by
  unfold Cert.ReferenceIdeal.Value.res_main_v31
  rfl

/-! ## The logarithms of the probabilities -/

variable (x : FVec Ideal S1024x200 .f32) (y : IVec S1024x200 32) (ρ : Fin 1024 → Fin 200 ≃ Fin 200)
  (hρ : ∀ b i, (y (ix2 b i)).toNat = (ρ b i).val + 1)

variable (s : Fin 1024 → Fin 200 → ℝ) (hs : ∀ b i, x (ix2 b i) = ((s b i : ℝ) : EReal))

/-- The scores of a row by rank. -/
def ranked (s : Fin 1024 → Fin 200 → ℝ) (ρ : Fin 1024 → Fin 200 ≃ Fin 200) : Fin 1024 → Fin 200 → ℝ := fun b n => s b ((ρ b).symm n)

include hρ hs in
theorem masked_apply (b : Fin 1024) (i j : Fin 200) :
    masked x y (ix3 b i j) = if j.val ≤ (ρ b i).val then ((s b i : ℝ) : EReal) else ⊥ := by
  have hy : ∀ b i, 1 ≤ (y (ix2 b i)).toNat ∧ (y (ix2 b i)).toNat ≤ 200 := fun b i => by
    have := hρ b i
    have := (ρ b i).isLt
    omega
  have e : masked x y (ix3 b i j) = x (ix2 b i) + mask y (ix3 b i j) := by
    unfold masked
    exact congrArg (· + mask y (ix3 b i j)) (Frames.bcCol _ _ x b i j)
  rw [e, mask_apply y hy, hs, hρ]
  by_cases h : j.val ≤ (ρ b i).val
  · rw [if_pos h, if_neg (by omega), add_zero]
  · rw [if_neg h, if_pos (by omega), EReal.add_bot]

theorem spread_apply (v : FVec Ideal S1024x200 .f32) (b : Fin 1024) (j : Fin 200) : spread v (ix3 b (0 : Fin 1) j) = v (ix2 b j) :=
  broadcastInDim_apply _ _ v _ _ fun a => by
    match a with
    | ⟨0, _⟩ => rfl
    | ⟨1, _⟩ => rfl

theorem widen_apply (v : FVec Ideal S1024x1x200 .f32) (b : Fin 1024) (i j : Fin 200) : widen v (ix3 b i j) = v (ix3 b (0 : Fin 1) j) :=
  broadcastInDim_apply _ _ v _ _ fun a => by
    match a with
    | ⟨0, _⟩ => rfl
    | ⟨1, _⟩ => rfl
    | ⟨2, _⟩ => rfl

theorem reduces_mid : S1024x200x200.Reduces [1] S1024x200 := by decide

theorem lift_mid (b : Fin 1024) (j i : Fin 200) : reduces_mid.lift (ix2 b j) i = ix3 b i j := by
  funext a
  match a with
  | ⟨0, _⟩ => rfl
  | ⟨1, _⟩ => rfl
  | ⟨2, _⟩ => rfl

theorem max_at {S : Shape} (X Y : FVec Ideal S .f32) (i : S.Idx) : maximumf X Y i = max (X i) (Y i) := rfl

theorem neg_div_at {S : Shape} (X Y : FVec Ideal S .f32) (i : S.Idx) : Host.negf (Host.divf X Y) i = -Ideal.div (X i) (Y i) := rfl

include hρ hs in
theorem peak_real (b : Fin 1024) (j : Fin 200) : ∃ c : ℝ, peak x y (ix2 b j) = (c : EReal) := by
  obtain ⟨c, hc⟩ := fold_max_real (Finset.univ : Finset (Fin 200)) (fun i => masked x y (ix3 b i j))
    (fun i _ => by rw [masked_apply x y ρ hρ s hs]; split <;> simp) ((ρ b).symm j) (Finset.mem_univ _)
    (by rw [masked_apply x y ρ hρ s hs, Equiv.apply_symm_apply, if_pos le_rfl]; simp)
  refine ⟨c, ?_⟩
  have e : Host.reduce FloatOps.maximumf (masked x y) (constant S_ .f32 0xFF800000#32) reducesTo_S1024x200x200_S1024x200_d1 h_S_ (ix2 b j) = (c : EReal) := by
    refine (congrFun (hostReduce_maximumf_eq_multiReduction (masked x y) 0xFF800000#32 reducesTo_S1024x200x200_S1024x200_d1 h_S_ reduces_mid (.inl rfl) rfl)
      (ix2 b j)).trans ?_
    refine (Ideal.multiReduction_maximumf_single _ _ _ _ _ _).trans ?_
    rw [show (FloatOps.ofBits .f32 0xFF800000#32 : Ideal .f32) = ⊥ from ofBits_neg_inf, ← hc]
    exact congrArg (fun f => Finset.fold max ⊥ f Finset.univ) (funext fun i => congrArg (masked x y) (lift_mid b j i))
  unfold peak
  rw [max_at, e, broadcastInDim_scalar_apply]
  exact (congrArg (max · (c : EReal)) ofBits_neg_inf).trans (max_eq_right bot_le)

include hρ hs in
theorem centred_apply (b : Fin 1024) (i j : Fin 200) (c : ℝ) (hc : peak x y (ix2 b j) = (c : EReal)) :
    centred x y (ix3 b i j) = if j.val ≤ (ρ b i).val then ((s b i - c : ℝ) : EReal) else ⊥ := by
  have e : centred x y (ix3 b i j) = masked x y (ix3 b i j) - c := by
    rw [← hc]
    exact congrArg (masked x y (ix3 b i j) - ·) ((widen_apply _ b i j).trans (spread_apply _ b j))
  rw [e, masked_apply x y ρ hρ s hs]
  split
  · exact (EReal.coe_sub _ _).symm
  · exact bot_sub_coe c

include hρ hs in
theorem mass_apply (b : Fin 1024) (j : Fin 200) (c : ℝ) (hc : peak x y (ix2 b j) = (c : EReal)) :
    mass x y (ix2 b j) = ((tail (ranked s ρ b) c j.val : ℝ) : EReal) := by
  unfold mass
  rw [hostReduceAdd_apply, Ideal.hostReduceAdd_single _ reduces_mid]
  have hz : (constant (F := Ideal) S_ .f32 0x00000000#32) (Shape.Idx.first h_S_) = 0 := Ideal.ofBits_zero_f32
  rw [hz, zero_add]
  have hi : ∀ i : Fin 200, Host.exp (centred x y) (reduces_mid.lift (ix2 b j) i)
      = (((fun n : Fin 200 => if j.val ≤ n.val then Real.exp (ranked s ρ b n - c) else 0) (ρ b i) : ℝ) : EReal) := fun i => by
    rw [lift_mid]
    show Ideal.exp (centred x y (ix3 b i j)) = _
    rw [centred_apply x y ρ hρ s hs b i j c hc]
    by_cases h : j.val ≤ (ρ b i).val
    · simp only [if_pos h, ranked, Equiv.symm_apply_apply]
      exact exp_coe _
    · simp only [if_neg h]
      rfl
  refine (Finset.sum_congr (s₂ := (Finset.univ : Finset (Fin 200))) rfl fun i _ => hi i).trans ((coe_sum _ _).trans (congrArg _ ?_))
  exact Equiv.sum_comp (ρ b) fun n : Fin 200 => if j.val ≤ n.val then Real.exp (ranked s ρ b n - c) else 0

include hρ hs in
theorem logp_apply (b : Fin 1024) (j : Fin 200) :
    logp x y (ix3 b ((ρ b).symm j) j) = ((ranked s ρ b j - lse (ranked s ρ b) j.val : ℝ) : EReal) := by
  obtain ⟨c, hc⟩ := peak_real x y ρ hρ s hs b j
  have e : logp x y (ix3 b ((ρ b).symm j) j) = centred x y (ix3 b ((ρ b).symm j) j) - Ideal.log (mass x y (ix2 b j)) := by
    exact congrArg (centred x y (ix3 b ((ρ b).symm j) j) - ·) ((widen_apply _ b _ j).trans (congrArg Ideal.log (spread_apply _ b j)))
  rw [e, centred_apply x y ρ hρ s hs b _ j c hc, mass_apply x y ρ hρ s hs b j c hc, Equiv.apply_symm_apply, if_pos le_rfl,
    log_coe (tail_pos _ _ _ j.isLt), ← EReal.coe_sub, ← log_tail_add _ c _ j.isLt]
  refine congrArg Real.toEReal ?_
  rw [add_comm, ← sub_sub]
  rfl

include hρ hs in
theorem taken_apply (b : Fin 1024) (j : Fin 200) : taken x y (ix2 b j) = ((ranked s ρ b j - lse (ranked s ρ b) j.val : ℝ) : EReal) := by
  unfold taken
  refine (shapeCast_apply _ _ _ (ix3 b (0 : Fin 1) j) ?_).trans ?_
  · rw [Shape.rowMajor_val_three, Shape.rowMajor_val_two]
    show (b.val * 1 + 0) * 200 + j.val = b.val * 200 + j.val
    omega
  · rw [select_apply, inside_apply y ρ hρ, select_one, gather_apply _ _ b j _ (places_apply y ρ hρ b j)]
    exact logp_apply x y ρ hρ s hs b j

include hρ hs in
/-- The reference's result is the loss. -/
theorem result_eq : result x y = fun _ => ((loss (ranked s ρ) : ℝ) : EReal) := by
  funext i
  have hz : (constant (F := Ideal) S_ .f32 0x00000000#32) (Shape.Idx.first h_S_) = 0 := Ideal.ofBits_zero_f32
  have hc : (constant (F := Ideal) S_ .f32 0x48480000#32) i = ((204800 : ℝ) : EReal) := ofBits_count
  unfold result
  rw [neg_div_at, hc, hostReduceAdd_apply, Ideal.hostReduceAdd_total _ (fun b => b.elim0), hz, zero_add, sum_idx2]
  simp only [taken_apply x y ρ hρ s hs, coe_sum]
  rw [div_coe _ _ (by norm_num), ← EReal.coe_neg]
  refine congrArg Real.toEReal ?_
  unfold loss
  rw [← neg_div, ← Finset.sum_neg_distrib]
  congr 1
  refine Finset.sum_congr rfl fun b _ => ?_
  rw [← Finset.sum_neg_distrib]
  exact Finset.sum_congr rfl fun n _ => neg_sub _ _

end Cert.Proof.RefValue

end
-- ==== Proof.TcValue.lean ====
/-
  The value of the TensorCore's body over extended reals: of a block that holds each row's real scores by rank, two rows of 128
  to a row of 200, it is the loss, whatever the block holds in the places past the 200th.
-/
module

public import proofs.«01_k».proof.Proof.Region
public import proofs.«01_k».proof.Proof.Loss

@[expose] public section

noncomputable section

namespace Cert.Proof.TcValue

open Cert.KernelIdeal Cert.KernelIdeal.Gen Cert.Proof.Sc Cert.Proof.Loss
open Idealize.ShloMosaic hiding ix1 ix2 eq_ix1 eq_ix2 sum_idx2 ix3 eq_ix3
open Idealize.ShloMosaic.ValueIdx
open scoped BigOperators

/-! ## The two tests -/

/-- The test of an even row, on the row's number as a word. -/
def evenBit (w : BitVec 32) : BitVec 1 :=
  let r := IntOp.remsi .vector w 2#32
  IntOp.cmpi .eq (Scalar.select (IntOp.andi (IntOp.xori (IntOp.cmpi .slt r 0#32) (IntOp.cmpi .slt 2#32 0#32)) (IntOp.cmpi .ne r 0#32)) (IntOp.addi r 2#32) r) 0#32

theorem evenBit_eq : ∀ r : Fin 2048, evenBit (BitVec.ofNat 32 r.val) = if r.val % 2 = 0 then 1#1 else 0#1 := by
  decide +kernel

theorem iota_rows (r : Fin 2048) : iota .tc S2048x1 32 [0] iota_S2048x1_d0_w32 (ix2 r (0 : Fin 1)) = BitVec.ofNat 32 r.val :=
  iota_single_apply .tc S2048x1 32 0 _ _

theorem iota_lanes (r : Fin 2048) (l : Fin 128) : iota .tc S2048x128 32 [1] iota_S2048x128_d1_w32 (ix2 r l) = BitVec.ofNat 32 l.val :=
  iota_single_apply .tc S2048x128 32 1 _ _

theorem iota_tri0 (k l : Fin 128) : iota .tc S128x128 32 [0] iota_S128x128_d0_w32 (ix2 k l) = BitVec.ofNat 32 k.val :=
  iota_single_apply .tc S128x128 32 0 _ _

theorem iota_tri1 (k l : Fin 128) : iota .tc S128x128 32 [1] iota_S128x128_d1_w32 (ix2 k l) = BitVec.ofNat 32 l.val :=
  iota_single_apply .tc S128x128 32 1 _ _

/-- A column repeated over the lanes. -/
theorem bcLanes {α : Type} (v : S2048x1.Idx → α) (r : Fin 2048) (l : Fin 128) :
    broadcastTo S2048x128 v broadcasts_S2048x1_S2048x128 (ix2 r l) = v (ix2 r (0 : Fin 1)) :=
  broadcastTo_apply v _ _ _ fun a => by fin_cases a <;> rfl

theorem pay4_apply (b : Fin 1024) (h : Fin 2) : k1_pay4 (ix2 (row b h) (0 : Fin 1)) = if h = 0 then 1#1 else 0#1 := by
  have e : k1_pay4 (ix2 (row b h) (0 : Fin 1)) = evenBit (BitVec.ofNat 32 (row b h).val) := by
    unfold k1_pay4 evenBit
    dsimp only
    simp only [cmpi, select, broadcast, broadcastTo, remsi, andi, xori, addi]
    rw [iota_rows]
    rfl
  rw [e, evenBit_eq]
  fin_cases h <;> simp [row]

theorem ltBit : ∀ l : Fin 128, IntOp.cmpi .slt (BitVec.ofNat 32 l.val) 72#32 = if l.val < 72 then 1#1 else 0#1 := by decide +kernel

/-- The places of a row that hold a score. -/
theorem pay5_apply (b : Fin 1024) (h : Fin 2) (l : Fin 128) :
    k1_pay5 (ix2 (row b h) l) = if 128 * h.val + l.val < 200 then 1#1 else 0#1 := by
  have e : k1_pay5 (ix2 (row b h) l) = IntOp.ori (if h = 0 then 1#1 else 0#1) (if l.val < 72 then 1#1 else 0#1) := by
    unfold k1_pay5
    dsimp only
    simp only [ori, cmpi, broadcast]
    rw [bcLanes, iota_lanes, pay4_apply, ltBit]
  rw [e]
  have := l.isLt
  rcases (by omega : h = 0 ∨ h = 1) with rfl | rfl
  · have h0 : 128 * (0 : Fin 2).val + l.val < 200 := by show 128 * 0 + l.val < 200; omega
    rw [if_pos h0]
    by_cases hl : l.val < 72
    · rw [if_pos hl]; rfl
    · rw [if_neg hl]; rfl
  · rw [if_neg (by decide)]
    by_cases hl : l.val < 72
    · rw [if_pos hl, if_pos (by show 128 * 1 + l.val < 200; omega)]; rfl
    · rw [if_neg hl, if_neg (by show ¬ 128 * 1 + l.val < 200; omega)]; rfl

theorem geBit (k l : Fin 128) : IntOp.cmpi .sge (BitVec.ofNat 32 k.val) (BitVec.ofNat 32 l.val) = if l.val ≤ k.val then 1#1 else 0#1 := by
  have hk := k.isLt
  have hl := l.isLt
  have e : IntOp.cmpi .sge (BitVec.ofNat 32 k.val) (BitVec.ofNat 32 l.val) = BitVec.ofBool (decide (l.val ≤ k.val)) := by
    simp only [IntOp.cmpi, BitVec.sle_eq_decide, BitVec.toInt_eq_toNat_cond, BitVec.toNat_ofNat, Nat.reducePow]
    congr 2
    simp only [eq_iff_iff]
    rw [Nat.mod_eq_of_lt (by omega), Nat.mod_eq_of_lt (by omega)]
    omega
  rw [e]
  by_cases h : l.val ≤ k.val <;> simp [h]

/-- The lower triangle of ones. -/
theorem tri_apply (k l : Fin 128) : (sitofp .f32 k1_pay9 : FVec Ideal S128x128 .f32) (ix2 k l) = ((if l.val ≤ k.val then 1 else 0 : ℝ) : EReal) := by
  have e : k1_pay9 (ix2 k l) = (if l.val ≤ k.val then 1#1 else 0#1 : BitVec 1).setWidth 32 := by
    unfold k1_pay9
    dsimp only
    simp only [extui, cmpi]
    rw [iota_tri0, iota_tri1, geBit]
  rw [sitofp_apply, e]
  by_cases h : l.val ≤ k.val <;> simp only [h, if_true, if_false] <;> simp [FloatOps.sitofp]

/-! ## The body at a block of scores by rank -/

/-- The block holds the scores `a` by rank: row `b`'s first 128 in one row, the other 72 at the start of the next. -/
def Holds (a : Fin 1024 → Fin 200 → ℝ) (X : FVec Ideal S2048x128 .f32) : Prop :=
  ∀ b (h : Fin 2) (l : Fin 128) (hn : 128 * h.val + l.val < 200), X (ix2 (row b h) l) = ((a b ⟨128 * h.val + l.val, hn⟩ : ℝ) : EReal)

variable {a : Fin 1024 → Fin 200 → ℝ} {X : FVec Ideal S2048x128 .f32}

theorem pay6_in (hX : Holds a X) (b : Fin 1024) (h : Fin 2) (l : Fin 128) (hn : 128 * h.val + l.val < 200) :
    k1_pay6 (F := Ideal) X (ix2 (row b h) l) = ((a b ⟨128 * h.val + l.val, hn⟩ : ℝ) : EReal) := by
  unfold k1_pay6
  rw [shapeCast_self, select_apply, pay5_apply, if_pos hn, select_one, hX b h l hn]

theorem pay6_out (b : Fin 1024) (h : Fin 2) (l : Fin 128) (hn : ¬ 128 * h.val + l.val < 200) : k1_pay6 (F := Ideal) X (ix2 (row b h) l) = ⊥ := by
  unfold k1_pay6
  rw [shapeCast_self, select_apply, pay5_apply, if_neg hn, select_zero]
  exact ofBits_neg_inf

/-- The greatest of a row of the block. -/
def rowMax (X : FVec Ideal S2048x128 .f32) (r : Fin 2048) : EReal := (Finset.univ : Finset (Fin 128)).fold max ⊥ fun l => k1_pay6 (F := Ideal) X (ix2 r l)

theorem rowMax_eq (r : Fin 2048) :
    shapeCast S2048x1 (multiReduction .maximumf [1] S2048 (k1_pay6 (F := Ideal) X) 0xFF800000#32 reduces_S2048x128_S2048 (.inl rfl) rfl) shapeCasts_S2048_S2048x1
      (ix2 r (0 : Fin 1)) = rowMax X r := by
  rw [shapeCast_apply _ _ _ (ix1 r) (by rw [Shape.rowMajor_val_one, Shape.rowMajor_val_two]; simp)]
  refine (Ideal.multiReduction_maximumf_single _ _ _ _ _ _).trans ?_
  unfold rowMax
  rw [show (FloatOps.ofBits .f32 0xFF800000#32 : Ideal .f32) = ⊥ from ofBits_neg_inf]
  refine congrArg (fun f => Finset.fold max ⊥ f Finset.univ) (funext fun l => ?_)
  refine congrArg (k1_pay6 (F := Ideal) X) ?_
  rw [eq_ix2 (Shape.Reduces.lift _ _ _)]
  rfl

/-- A column moved up by one, read at the first row of a pair. -/
theorem up_apply {α : Type} (v : S2048x1.Idx → α) (z : S1x1.Idx → α) (h₁ : S2048x1.Slices ![1, 0] S2047x1)
    (h₂ : Shape.Concatenates [S2047x1, S1x1] S2048x1 0) (b : Fin 1024) :
    concatenate S2048x1 0 [⟨S2047x1, extractStridedSlice S2047x1 ![1, 0] v h₁⟩, ⟨S1x1, z⟩] h₂ (ix2 (row b 0) (0 : Fin 1)) = v (ix2 (row b 1) (0 : Fin 1)) := by
  have hb : 2 * b.val < 2047 := by have := b.isLt; omega
  refine (concatenate_pair_apply_left (t := S2048x1) (s₁ := S2047x1) (s₂ := S1x1) 0 _ _ h₂ _ rfl (ix2 (⟨2 * b.val, hb⟩ : Fin 2047) (0 : Fin 1)) ?_).trans
    (extractStridedSlice_apply (s := S2048x1) (t := S2047x1) _ v h₁ _ _ ?_)
  · exact Fin.forall_fin_two.mpr ⟨rfl, rfl⟩
  · exact Fin.forall_fin_two.mpr ⟨by simp [row]; omega, rfl⟩

/-- A column moved down by one, read at the second row of a pair. -/
theorem down_apply {α : Type} (v : S2048x1.Idx → α) (z : S1x1.Idx → α) (h₁ : S2048x1.Slices ![0, 0] S2047x1)
    (h₂ : Shape.Concatenates [S1x1, S2047x1] S2048x1 0) (b : Fin 1024) :
    concatenate S2048x1 0 [⟨S1x1, z⟩, ⟨S2047x1, extractStridedSlice S2047x1 ![0, 0] v h₁⟩] h₂ (ix2 (row b 1) (0 : Fin 1)) = v (ix2 (row b 0) (0 : Fin 1)) := by
  have hb : 2 * b.val < 2047 := by have := b.isLt; omega
  refine (concatenate_pair_apply_right (t := S2048x1) (s₁ := S1x1) (s₂ := S2047x1) 0 _ _ h₂ _ rfl rfl (ix2 (⟨2 * b.val, hb⟩ : Fin 2047) (0 : Fin 1)) ?_ ?_).trans
    (extractStridedSlice_apply (s := S2048x1) (t := S2047x1) _ v h₁ _ _ ?_)
  · exact Fin.forall_fin_two.mpr ⟨fun h => absurd rfl h, fun _ => rfl⟩
  · rfl
  · exact Fin.forall_fin_two.mpr ⟨by simp [row], rfl⟩

/-- The maximum that both rows of a pair are taken against. -/
theorem pay7_apply (b : Fin 1024) (h : Fin 2) : k1_pay7 (F := Ideal) X (ix2 (row b h) (0 : Fin 1)) = max (rowMax X (row b 0)) (rowMax X (row b 1)) := by
  unfold k1_pay7
  dsimp only
  rw [maximumf_apply, select_apply, rowMax_eq, pay4_apply]
  rcases (by omega : h = 0 ∨ h = 1) with rfl | rfl
  · rw [if_pos rfl, select_one, up_apply, rowMax_eq]
  · rw [if_neg (by decide), select_zero, down_apply, rowMax_eq, max_comm]

/-- That maximum is a real number in every row. -/
theorem max_real (hX : Holds a X) (b : Fin 1024) : ∃ μ : ℝ, max (rowMax X (row b 0)) (rowMax X (row b 1)) = (μ : EReal) := by
  have one : ∀ h : Fin 2, ∃ μ : ℝ, rowMax X (row b h) = (μ : EReal) := fun h => by
    have h0 : 128 * h.val + (0 : Fin 128).val < 200 := by have := h.isLt; show 128 * h.val + 0 < 200; omega
    refine fold_max_real _ _ (fun l _ => ?_) 0 (Finset.mem_univ _) ?_
    · by_cases hn : 128 * h.val + l.val < 200
      · rw [pay6_in hX b h l hn]; exact EReal.coe_ne_top _
      · rw [pay6_out b h l hn]; exact bot_ne_top
    · rw [pay6_in hX b h 0 h0]; exact EReal.coe_ne_bot _
  obtain ⟨μ₀, e₀⟩ := one 0
  obtain ⟨μ₁, e₁⟩ := one 1
  exact ⟨max μ₀ μ₁, by rw [e₀, e₁]; exact (EReal.coe_strictMono.monotone.map_max (a := μ₀) (b := μ₁)).symm⟩

/-- A score's exponential, less `c`, and nothing past the row's end. -/
def ex (a : Fin 200 → ℝ) (c : ℝ) (n : ℕ) : ℝ := if hn : n < 200 then Real.exp (a ⟨n, hn⟩ - c) else 0

theorem pay8_apply (hX : Holds a X) (μ : Fin 1024 → ℝ) (hμ : ∀ b, max (rowMax X (row b 0)) (rowMax X (row b 1)) = (μ b : EReal))
    (b : Fin 1024) (h : Fin 2) (l : Fin 128) :
    k1_pay8 (F := Ideal) X (ix2 (row b h) l) = ((ex (a b) (μ b) (128 * h.val + l.val) : ℝ) : EReal) := by
  unfold k1_pay8
  show Ideal.exp (k1_pay6 (F := Ideal) X (ix2 (row b h) l) - broadcastTo S2048x128 (k1_pay7 (F := Ideal) X) broadcasts_S2048x1_S2048x128 (ix2 (row b h) l)) = _
  rw [bcLanes, pay7_apply, hμ]
  unfold ex
  by_cases hn : 128 * h.val + l.val < 200
  · rw [pay6_in hX b h l hn, dif_pos hn, ← EReal.coe_sub, exp_coe]
  · rw [pay6_out b h l hn, dif_neg hn, bot_sub_coe]; rfl

/-- The product with a square of 128, read at an element. -/
theorem mm_apply (E : FVec Ideal S2048x128 .f32) (T : FVec Ideal S128x128 .f32) (r : Fin 2048) (l : Fin 128) :
    (matmul dot_S2048x128_S128x128_S2048x128_1_0_0_1_n_n (some .fp32) E T (constant S2048x128 .f32 0x00000000#32) : FVec Ideal S2048x128 .f32) (ix2 r l)
      = ∑ k : Fin 128, E (ix2 r k) * T (ix2 k l) := by
  refine (Ideal.matmul_constant_zero_apply _ _ E T _).trans ?_
  rw [← Equiv.sum_comp (contrEquiv1 dot_S2048x128_S128x128_S2048x128_1_0_0_1_n_n 128 rfl rfl).symm]
  refine Finset.sum_congr rfl fun k _ => ?_
  refine congrArg₂ (· * ·) (congrArg E ?_) (congrArg T ?_)
  · rw [eq_ix2 (DotDims.lhsIdx _ _ _)]; rfl
  · rw [eq_ix2 (DotDims.rhsIdx _ _ _)]; rfl

/-- The sums of a row's exponentials from each lane on, within the row's half. -/
def suff (a : Fin 200 → ℝ) (c : ℝ) (h l : ℕ) : ℝ := ∑ k : Fin 128, if l ≤ k.val then ex a c (128 * h + k.val) else 0

theorem mm_pay8 (hX : Holds a X) (μ : Fin 1024 → ℝ) (hμ : ∀ b, max (rowMax X (row b 0)) (rowMax X (row b 1)) = (μ b : EReal))
    (b : Fin 1024) (h : Fin 2) (l : Fin 128) :
    (matmul dot_S2048x128_S128x128_S2048x128_1_0_0_1_n_n (some .fp32) (k1_pay8 (F := Ideal) X) (sitofp .f32 k1_pay9 : FVec Ideal S128x128 .f32)
        (constant S2048x128 .f32 0x00000000#32) : FVec Ideal S2048x128 .f32) (ix2 (row b h) l)
      = ((suff (a b) (μ b) h.val l.val : ℝ) : EReal) := by
  rw [mm_apply]
  unfold suff
  rw [← coe_sum]
  refine Finset.sum_congr rfl fun k _ => ?_
  rw [pay8_apply hX μ hμ, tri_apply, ← EReal.coe_mul, mul_ite, mul_one, mul_zero]

/-- What is left at a rank of the first half: the rest of the half and the whole of the second. -/
theorem tail_first (a : Fin 200 → ℝ) (c : ℝ) (l : ℕ) (hl : l < 128) : tail a c l = suff a c 0 l + suff a c 1 0 := by
  have e := halves (fun n => if l ≤ n then ex a c n else 0) (fun n hn => by
    show (if l ≤ n then ex a c n else 0) = 0
    unfold ex; rw [dif_neg (by omega), ite_self])
  unfold tail suff
  refine Eq.trans (Finset.sum_congr rfl fun k _ => ?_) (e.symm.trans (congrArg₂ (· + ·) ?_ ?_))
  · unfold ex; rw [dif_pos k.isLt]
  · exact Finset.sum_congr rfl fun k _ => by rw [Nat.mul_zero, Nat.zero_add]
  · exact Finset.sum_congr rfl fun k _ => by rw [if_pos (by omega : l ≤ 128 + k.val), if_pos (Nat.zero_le _), Nat.mul_one]

/-- What is left at a rank of the second half: the rest of that half. -/
theorem tail_second (a : Fin 200 → ℝ) (c : ℝ) (l : ℕ) : tail a c (128 + l) = suff a c 1 l := by
  have e := halves (fun n => if 128 + l ≤ n then ex a c n else 0) (fun n hn => by
    show (if 128 + l ≤ n then ex a c n else 0) = 0
    unfold ex; rw [dif_neg (by omega), ite_self])
  unfold tail suff
  refine Eq.trans (Finset.sum_congr rfl fun k _ => ?_) (e.symm.trans ((congrArg₂ (· + ·) (Finset.sum_eq_zero fun k _ => ?_) ?_).trans (zero_add _)))
  · unfold ex; rw [dif_pos k.isLt]
  · exact if_neg (by have := k.isLt; omega)
  · refine Finset.sum_congr rfl fun k _ => ?_
    rw [Nat.mul_one]
    exact if_congr (by omega) rfl rfl

/-- The first lane of a table's column moved up by one, read at the first row of a pair. -/
theorem upLane_apply {α : Type} (v : S2048x128.Idx → α) (z : S1x1.Idx → α) (h₁ : S2048x128.Slices ![1, 0] S2047x1)
    (h₂ : Shape.Concatenates [S2047x1, S1x1] S2048x1 0) (b : Fin 1024) :
    concatenate S2048x1 0 [⟨S2047x1, extractStridedSlice S2047x1 ![1, 0] v h₁⟩, ⟨S1x1, z⟩] h₂ (ix2 (row b 0) (0 : Fin 1)) = v (ix2 (row b 1) (0 : Fin 128)) := by
  have hb : 2 * b.val < 2047 := by have := b.isLt; omega
  refine (concatenate_pair_apply_left (t := S2048x1) (s₁ := S2047x1) (s₂ := S1x1) 0 _ _ h₂ _ rfl (ix2 (⟨2 * b.val, hb⟩ : Fin 2047) (0 : Fin 1)) ?_).trans
    (extractStridedSlice_apply (s := S2048x128) (t := S2047x1) _ v h₁ _ _ ?_)
  · exact Fin.forall_fin_two.mpr ⟨rfl, rfl⟩
  · exact Fin.forall_fin_two.mpr ⟨by simp [row]; omega, rfl⟩

/-- A sum over the whole block, as the kernel takes it. -/
theorem total_apply (v : FVec Ideal S2048x128 .f32) (i : S1.Idx) :
    multiReduction .add [1, 2] S1 (shapeCast S1x2048x128 v shapeCasts_S2048x128_S1x2048x128) 0x00000000#32 reduces_S1x2048x128_S1 (.inl rfl) rfl i
      = ∑ b, ((∑ l : Fin 128, v (ix2 (row b 0) l)) + ∑ l : Fin 128, v (ix2 (row b 1) l)) := by
  refine (Ideal.multiReduction_add_total _ _ _ (fun b => by have := b.isLt; obtain ⟨b, hb⟩ := b; obtain rfl : b = 0 := by simpa using hb
                                                            rfl) _ _ i).trans ?_
  refine (Equiv.sum_comp (Shape.reshapeEquiv shapeCasts_S2048x128_S1x2048x128) v).trans ?_
  rw [sum_idx2, sum_rows]

/-- What the kernel sums over the block's places, where the places of row `b` hold `f b n` at rank `n` and zero is put past the
    row's end. -/
theorem total_valid (v : FVec Ideal S2048x128 .f32) (z : FVec Ideal S2048x128 .f32) (hz : ∀ i, z i = 0) (f : Fin 1024 → ℕ → ℝ)
    (hv : ∀ b (h : Fin 2) (l : Fin 128), 128 * h.val + l.val < 200 → v (ix2 (row b h) l) = ((f b (128 * h.val + l.val) : ℝ) : EReal)) (i : S1.Idx) :
    multiReduction .add [1, 2] S1 (shapeCast S1x2048x128 (select k1_pay5 v z) shapeCasts_S2048x128_S1x2048x128) 0x00000000#32 reduces_S1x2048x128_S1 (.inl rfl) rfl i
      = ((∑ b, ∑ n : Fin 200, f b n.val : ℝ) : EReal) := by
  rw [total_apply, ← coe_sum]
  refine Finset.sum_congr rfl fun b _ => ?_
  have at_ : ∀ (h : Fin 2) (l : Fin 128), select k1_pay5 v z (ix2 (row b h) l)
      = (((if 128 * h.val + l.val < 200 then f b (128 * h.val + l.val) else 0 : ℝ)) : EReal) := fun h l => by
    rw [select_apply, pay5_apply]
    by_cases hn : 128 * h.val + l.val < 200
    · rw [if_pos hn, if_pos hn, select_one, hv b h l hn]
    · rw [if_neg hn, if_neg hn, select_zero, hz, EReal.coe_zero]
  rw [Finset.sum_congr rfl fun l _ => at_ 0 l, Finset.sum_congr rfl fun l _ => at_ 1 l, coe_sum, coe_sum, ← EReal.coe_add]
  have e := halves (fun n => if n < 200 then f b n else 0) (fun n hn => if_neg (by omega))
  congr 1

variable (X) in
/-- Each place's sum of the exponentials from its lane on, within its row of the block. -/
def prod : FVec Ideal S2048x128 .f32 :=
  matmul dot_S2048x128_S128x128_S2048x128_1_0_0_1_n_n (some .fp32) (k1_pay8 (F := Ideal) X) (sitofp .f32 k1_pay9 : FVec Ideal S128x128 .f32)
    (constant S2048x128 .f32 0x00000000#32)

variable (X) in
/-- Each place's log of the sum of what is left there. -/
def lseBlock : FVec Ideal S2048x128 .f32 :=
  addf (log (addf (prod X) (broadcastTo S2048x128 (select k1_pay4 (concatenate S2048x1 0 [⟨S2047x1, extractStridedSlice S2047x1 ![1, 0] (prod X)
      slices_S2048x128_o1_0_S2047x1⟩, ⟨S1x1, k1_pay3 (F := Ideal)⟩] concatenates_S2047x1_S1x1_S2048x1_d0)
      (broadcast S2048x1 (Scalar.ofBits (F := Ideal) .f32 0x00000000#32))) broadcasts_S2048x1_S2048x128)))
    (broadcastTo S2048x128 (k1_pay7 (F := Ideal) X) broadcasts_S2048x1_S2048x128)

theorem lse_apply (hX : Holds a X) (b : Fin 1024) (h : Fin 2) (l : Fin 128) (hn : 128 * h.val + l.val < 200) :
    lseBlock X (ix2 (row b h) l) = ((lse (a b) (128 * h.val + l.val) : ℝ) : EReal) := by
  choose μ hμ using max_real hX
  have hp : ∀ (h : Fin 2) (l : Fin 128), prod X (ix2 (row b h) l) = ((suff (a b) (μ b) h.val l.val : ℝ) : EReal) := mm_pay8 hX μ hμ b
  unfold lseBlock
  show Ideal.log (prod X (ix2 (row b h) l) + broadcastTo S2048x128 _ broadcasts_S2048x1_S2048x128 (ix2 (row b h) l))
    + broadcastTo S2048x128 _ broadcasts_S2048x1_S2048x128 (ix2 (row b h) l) = _
  rw [bcLanes, bcLanes, pay7_apply, hμ, hp, select_apply, pay4_apply]
  have key : ∀ t : ℝ, t = tail (a b) (μ b) (128 * h.val + l.val) →
      Ideal.log (t : EReal) + (μ b : EReal) = ((lse (a b) (128 * h.val + l.val) : ℝ) : EReal) := fun t e => by
    rw [e, log_coe (tail_pos _ _ _ hn), ← EReal.coe_add, log_tail_add _ _ _ hn]
  rcases (by omega : h = 0 ∨ h = 1) with rfl | rfl
  · rw [if_pos rfl, select_one, upLane_apply, hp, ← EReal.coe_add]
    refine key _ ?_
    rw [show 128 * (0 : Fin 2).val + l.val = l.val from Nat.zero_add _, tail_first _ _ _ l.isLt]
    rfl
  · rw [if_neg (by decide), select_zero, broadcast_apply, show (Scalar.ofBits (F := Ideal) .f32 0x00000000#32) = ((0 : ℝ) : EReal) from Ideal.ofBits_zero_f32,
      ← EReal.coe_add, add_zero]
    exact key _ (tail_second _ _ _).symm

/-- The body's value of such a block is the loss. -/
theorem tcVal_eq (hX : Holds a X) (j : S1x1.Idx) : tcVal (F := Ideal) X j = ((loss a : ℝ) : EReal) := by
  have hl := total_valid (lseBlock X) (broadcast S2048x128 (Scalar.ofBits (F := Ideal) .f32 0x00000000#32)) (fun i => Ideal.ofBits_zero_f32)
    (fun b n => lse (a b) n) (lse_apply hX)
  have hs := total_valid (k1_pay6 (F := Ideal) X) (broadcast S2048x128 (Scalar.ofBits (F := Ideal) .f32 0x00000000#32)) (fun i => Ideal.ofBits_zero_f32)
    (fun b n => if hn : n < 200 then a b ⟨n, hn⟩ else 0) (fun b h l hn => by rw [pay6_in hX b h l hn, dif_pos hn])
  have e : tcVal (F := Ideal) X j = Ideal.ofBits .f32 0x00000000#32 + Ideal.div
      (multiReduction .add [1, 2] S1 (shapeCast S1x2048x128 (select k1_pay5 (lseBlock X) (broadcast S2048x128 (Scalar.ofBits (F := Ideal) .f32 0x00000000#32)))
          shapeCasts_S2048x128_S1x2048x128) 0x00000000#32 reduces_S1x2048x128_S1 (.inl rfl) rfl (Shape.reshapeEquiv shapeCasts_S1_S1x1x1 (ix3 (0 : Fin 1) (0 : Fin 1) (0 : Fin 1)))
        - multiReduction .add [1, 2] S1 (shapeCast S1x2048x128 (select k1_pay5 (k1_pay6 (F := Ideal) X) (broadcast S2048x128 (Scalar.ofBits (F := Ideal) .f32 0x00000000#32)))
          shapeCasts_S2048x128_S1x2048x128) 0x00000000#32 reduces_S1x2048x128_S1 (.inl rfl) rfl (Shape.reshapeEquiv shapeCasts_S1_S1x1x1 (ix3 (0 : Fin 1) (0 : Fin 1) (0 : Fin 1))))
      (Ideal.ofBits .f32 0x48480000#32) := rfl
  rw [e, hl, hs, ofBits_count, Ideal.ofBits_zero_f32, zero_add, ← EReal.coe_sub, div_coe _ _ (by norm_num), loss_eq]
  congr 4

end Cert.Proof.TcValue

end
-- ==== Proof.Algebraic.lean ====
/-
  The kernel's result and the reference's are one number: where the scores are finite and each row of ranks is a permutation of
  1 to 200, both are the loss of the scores taken by rank.
-/
module

public import proofs.«01_k».proof.Proof.RefValue
public import proofs.«01_k».proof.Proof.TcValue
public import proofs.«01_k».proof.Proof.Main
public import proofs.«01_k».proof.Proof.Ranked
public import proofs.«01_k».proof.Proof.Gen.ReferenceIdeal.Run

@[expose] public section

noncomputable section

namespace Cert.Proof.Algebraic

open Cert.KernelIdeal Cert.KernelIdeal.Gen Cert.Proof.Sc Cert.Proof.Placed Cert.Proof.Loss Cert.Proof.TcValue Cert.Proof.Frames
open Idealize.ShloMosaic hiding ix1 ix2 ix3 ix4 eq_ix1 eq_ix2 eq_ix3 eq_ix4 sum_idx2
open Idealize.ShloMosaic.TcCoe Idealize.SL.Sem
open Idealize.ShloMosaic.ValueIdx

/-! ## What the precondition says of the two arguments -/

/-- A score whose magnitude is below infinity is a real. -/
theorem real_of_finite (v : EReal) (h : FloatOps.cmpf .olt (FloatOps.hostAbsf (φ := .f32) (v : Ideal .f32)) (FloatOps.ofBits .f32 0x7F800000#32 : Ideal .f32) = 1#1) :
    v = ((v.toReal : ℝ) : EReal) := by
  have hlt : max v (-v) < ⊤ := by
    have h' : Idealize.ShloMosaic.Ideal.cmp .olt (max v (-v)) (Ideal.ofBits .f32 0x7F800000#32) = 1#1 := h
    rw [ofBits_inf] at h'
    by_contra hn
    simp [Idealize.ShloMosaic.Ideal.cmp] at h'
    simp only [max_lt_iff, not_and, not_lt, top_le_iff] at hn
    by_cases hv : v < ⊤
    · simp [hn hv] at h'
    · simp [hv] at h'
  refine (EReal.coe_toReal (fun e => ?_) fun e => ?_).symm
  · rw [e] at hlt
    simp at hlt
  · rw [e] at hlt
    simp at hlt

variable (x : FVec Ideal S1024x200 .f32) (y : IVec S1024x200 32) (h : Cert.Pre_ranked.fn x y = fun _ => 1#1)

/-- The scores as reals. -/
def scores (x : FVec Ideal S1024x200 .f32) (b : Fin 1024) (i : Fin 200) : ℝ := EReal.toReal (x (ix2 b i))

include h in
theorem scores_eq (b : Fin 1024) (i : Fin 200) : x (ix2 b i) = ((scores x b i : ℝ) : EReal) :=
  real_of_finite _ (ranked_at x y h b i 0).1.2

include h in
theorem rank_bounds (b : Fin 1024) (i : Fin 200) : 1 ≤ (y (ix2 b i)).toNat ∧ (y (ix2 b i)).toNat ≤ 200 :=
  range_of _ (ranked_at x y h b i 0).1.1

include h in
/-- The ranks of each row, less one, are a permutation. -/
theorem exists_perm : ∃ ρ : Fin 1024 → Fin 200 ≃ Fin 200, ∀ b i, (y (ix2 b i)).toNat = (ρ b i).val + 1 := by
  have hb := rank_bounds x y h
  have hinj : ∀ b, Function.Injective fun i => (⟨(y (ix2 b i)).toNat - 1, by have := hb b i; omega⟩ : Fin 200) := fun b i j e => by
    by_contra hij
    refine distinct_of_ranked x y h b i j hij (BitVec.eq_of_toNat_eq ?_)
    have := congrArg Fin.val e
    have hi := hb b i
    have hj := hb b j
    simp only at this
    omega
  refine ⟨fun b => Equiv.ofBijective _ (Finite.injective_iff_bijective.mp (hinj b)), fun b i => ?_⟩
  have := hb b i
  show _ = (y (ix2 b i)).toNat - 1 + 1
  omega

/-! ## The kernel's result -/

theorem block_apply (g : FVec Ideal S262144 .f32) (b : Fin 1024) (k : Fin 2) (l : Fin 128) :
    shapeCast S2048x128 g shapeCasts_S262144_S2048x128 (ix2 (row b k) l) = g (ix1 ⟨b.val * 256 + (128 * k.val + l.val), by omega⟩) :=
  shapeCast_apply g _ _ _ (by
    rw [Shape.rowMajor_val_one, Shape.rowMajor_val_two]
    show b.val * 256 + (128 * k.val + l.val) = (2 * b.val + k.val) * 128 + l.val
    omega)

theorem ofNat_val {n : Nat} [NeZero n] (i : Fin n) : Fin.ofNat n i.val = i := Fin.ext (Nat.mod_eq_of_lt i.isLt)

include h in
/-- The staged scores stand by rank. -/
theorem holds_of_placed (ρ : Fin 1024 → Fin 200 ≃ Fin 200) (hρ : ∀ b i, (y (ix2 b i)).toNat = (ρ b i).val + 1) (g : FVec Ideal S262144 .f32)
    (hg : AllPlaced (F := Ideal) x y g) : Holds (RefValue.ranked (scores x) ρ) (shapeCast S2048x128 g shapeCasts_S262144_S2048x128) := by
  intro b k l hn
  have hu : Uniq (odN y) b.val ((ρ b).symm ⟨128 * k.val + l.val, hn⟩).val := fun k' hk' hne e => by
    unfold odN at e
    rw [ofNat_val, ofNat_val] at e
    refine distinct_of_ranked x y h b (Fin.ofNat 200 k') _ (fun q => hne ?_) e
    have := congrArg Fin.val q
    rw [← this]
    exact (Nat.mod_eq_of_lt hk').symm
  rw [block_apply, hg b.val _ b.isLt ((ρ b).symm ⟨128 * k.val + l.val, hn⟩).isLt hu]
  · unfold scN
    rw [ofNat_val, ofNat_val]
    exact scores_eq x y h b _
  · unfold odN
    rw [ofNat_val, ofNat_val, hρ, Equiv.apply_symm_apply]
    rfl

include h in
theorem outVal_eq (ρ : Fin 1024 → Fin 200 ≃ Fin 200) (hρ : ∀ b i, (y (ix2 b i)).toNat = (ρ b i).val + 1) (g : FVec Ideal S262144 .f32)
    (hg : AllPlaced (F := Ideal) x y g) : outVal (F := Ideal) g = fun _ => ((loss (RefValue.ranked (scores x) ρ) : ℝ) : EReal) := by
  funext j
  unfold outVal shapeCast
  exact tcVal_eq (holds_of_placed x y h ρ hρ g hg) _

/-! ## The claim -/

theorem algebraic : Cert.algebraic_KernelIdeal_ReferenceIdeal_pre_ranked := by
  intro m g m' g' hpre hargs
  have hp := fun c => exists_perm _ _ (hpre c)
  choose ρ hρ using hp
  refine ⟨fun c _ => ((loss (RefValue.ranked (scores (m (xLoc c))) (ρ c)) : ℝ) : EReal), ?_, ?_⟩
  · refine (θ_run Cert.KernelIdeal.defs _ _).mono (fun r hr c => ?_) (run_main (F := Ideal) m g fun d => inRange_of_ranked _ _ (hpre d))
    obtain ⟨h0, h1, v, hv, ho⟩ := hr.1 c
    exact ⟨ho.trans (outVal_eq _ _ (hpre c) (ρ c) (hρ c) v hv), h0, h1⟩
  · refine (θ_run Cert.ReferenceIdeal.defs _ _).mono (fun r hr c => ?_) (Cert.ReferenceIdeal.Value.run (F := Ideal) m' g')
    obtain ⟨ho, h0, h1⟩ := hr c
    refine ⟨ho.trans ((RefValue.res_eq m' c).trans ?_), h0, h1⟩
    rw [(hargs c).1, (hargs c).2]
    exact RefValue.result_eq _ _ (ρ c) (hρ c) (scores (m (xLoc c))) (scores_eq _ _ (hpre c))

end Cert.Proof.Algebraic

end
-- ==== Proof.lean ====
/-
  The claim: the three frames (the two that the value claim's precondition asks for are the same runs under it), the idealization,
  and the equality of the kernel's result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Ranked
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Frames.ranksFacts, Frames.rankedFacts,
  Frames.frame_kernel, Frames.frame_ideal, Frames.frame_ideal_ranked, Frames.frame_reference, Frames.frame_reference_ranked, trivial,
  Algebraic.algebraic⟩

end Cert.Proof

end
